-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_d" .f32 0x3A3A2E8C#32 ((1 / 1408 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S16x4096x1408 : Shape := ⟨3, ![16, 4096, 1408]⟩
abbrev S1408 : Shape := ⟨1, ![1408]⟩
abbrev S_ : Shape := ⟨0, ![]⟩

class Facts : Prop where
  bitsLt_bf16_f32 : FTy.bits .bf16 < FTy.bits .f32
  bcast_S_S1408 : S_.BroadcastsInDim S1408 (![] : Fin 0 → Fin S1408.rank)
  reducesTo_S1408_S_d0 : S1408.ReducesTo [0] S_
  h_S_ : 0 < S_.numel

variable [Facts]

def fn {F : FTy → Type} [FloatOps F] (main_arg0 : FVec F S16x4096x1408 .bf16) (main_arg1 : FVec F S1408 .bf16) : IVec S_ 1 :=
  let main_v0 : FVec F S1408 .f32 := (extf .f32 · bitsLt_bf16_f32) main_arg1
  let main_v1 : FVec F S1408 .f32 := Host.absf main_v0
  let main_cst : FVec F S_ .f32 := constant S_ .f32 0x7F7F0000#32
  let main_v2 : FVec F S1408 .f32 := broadcastInDim S1408 ![] bcast_S_S1408 main_cst
  let main_v3 : IVec S1408 1 := cmpf .ole main_v1 main_v2
  let main_c : IVec S_ 1 := constantI S_ 1 1#1
  let main_v4 : IVec S_ 1 := (fun x v => Host.reduce IntOp.andi x v reducesTo_S1408_S_d0 h_S_) main_v3 main_c
  main_v4
-- ==== Kernel.lean ====
abbrev S16x4096x1408 : Shape := ⟨3, ![16, 4096, 1408]⟩
abbrev S1408 : Shape := ⟨1, ![1408]⟩
abbrev S65536x1408 : Shape := ⟨2, ![65536, 1408]⟩
abbrev S1x1408 : Shape := ⟨2, ![1, 1408]⟩
abbrev S44x65536 : Shape := ⟨2, ![44, 65536]⟩
abbrev S1408x65536 : Shape := ⟨2, ![1408, 65536]⟩
abbrev S1408x2048 : Shape := ⟨2, ![1408, 2048]⟩
abbrev S256x1x256 : Shape := ⟨3, ![256, 1, 256]⟩
abbrev S256x1408 : Shape := ⟨2, ![256, 1408]⟩
abbrev S44x256 : Shape := ⟨2, ![44, 256]⟩
abbrev S1408x256 : Shape := ⟨2, ![1408, 256]⟩
abbrev S1408x128 : Shape := ⟨2, ![1408, 128]⟩
abbrev S1x1x256 : Shape := ⟨3, ![1, 1, 256]⟩
abbrev S128x1408 : Shape := ⟨2, ![128, 1408]⟩
abbrev S256x256 : Shape := ⟨2, ![256, 256]⟩
abbrev S8x256 : Shape := ⟨2, ![8, 256]⟩
abbrev S1x128 : Shape := ⟨2, ![1, 128]⟩
abbrev S128x128 : Shape := ⟨2, ![128, 128]⟩
abbrev S256x128 : Shape := ⟨2, ![256, 128]⟩
abbrev S128x256 : Shape := ⟨2, ![128, 256]⟩
abbrev S1x256 : Shape := ⟨2, ![1, 256]⟩
abbrev S32x8x256 : Shape := ⟨3, ![32, 8, 256]⟩
abbrev S1x8x256 : Shape := ⟨3, ![1, 8, 256]⟩
abbrev S8x32x256 : Shape := ⟨3, ![8, 32, 256]⟩
abbrev S8x1x256 : Shape := ⟨3, ![8, 1, 256]⟩
abbrev S16x8x256 : Shape := ⟨3, ![16, 8, 256]⟩
abbrev S4x32x256 : Shape := ⟨3, ![4, 32, 256]⟩
abbrev S4x256 : Shape := ⟨2, ![4, 256]⟩
abbrev S4x1x256 : Shape := ⟨3, ![4, 1, 256]⟩
abbrev S8x32x128 : Shape := ⟨3, ![8, 32, 128]⟩
abbrev S8x128 : Shape := ⟨2, ![8, 128]⟩
abbrev S65536x44 : Shape := ⟨2, ![65536, 44]⟩
abbrev S65536 : Shape := ⟨1, ![65536]⟩

abbrev nBuf : Space → Nat
  | .hbm => 11
  | .vmem => 19
  | .smem => 0
  | _ => 0

abbrev bufTy : (tb : Table) → Fin (tcTables nBuf tb) → BufTy
  | .hbm, ⟨0, _⟩ => ⟨S16x4096x1408, .bf16⟩
  | .hbm, ⟨1, _⟩ => ⟨S1408, .bf16⟩
  | .hbm, ⟨2, _⟩ => ⟨S65536x1408, .bf16⟩
  | .hbm, ⟨3, _⟩ => ⟨S1x1408, .bf16⟩
  | .hbm, ⟨4, _⟩ => ⟨S65536x1408, .fp8e4m3⟩
  | .hbm, ⟨5, _⟩ => ⟨S44x65536, .f32⟩
  | .hbm, ⟨6, _⟩ => ⟨S1408x65536, .fp8e4m3⟩
  | .hbm, ⟨7, _⟩ => ⟨S1408x2048, .f32⟩
  | .hbm, ⟨8, _⟩ => ⟨S256x1x256, .f32⟩
  | .hbm, ⟨9, _⟩ => ⟨S65536x44, .f32⟩
  | .hbm, ⟨10, _⟩ => ⟨S65536, .f32⟩
  | .local _ .vmem, ⟨0, _⟩ => ⟨S256x1408, .bf16⟩
  | .local _ .vmem, ⟨1, _⟩ => ⟨S256x1408, .bf16⟩
  | .local _ .vmem, ⟨2, _⟩ => ⟨S1x1408, .bf16⟩
  | .local _ .vmem, ⟨3, _⟩ => ⟨S256x1408, .fp8e4m3⟩
  | .local _ .vmem, ⟨4, _⟩ => ⟨S256x1408, .fp8e4m3⟩
  | .local _ .vmem, ⟨5, _⟩ => ⟨S44x256, .f32⟩
  | .local _ .vmem, ⟨6, _⟩ => ⟨S44x256, .f32⟩
  | .local _ .vmem, ⟨7, _⟩ => ⟨S1408x256, .fp8e4m3⟩
  | .local _ .vmem, ⟨8, _⟩ => ⟨S1408x256, .fp8e4m3⟩
  | .local _ .vmem, ⟨9, _⟩ => ⟨S1408x128, .f32⟩
  | .local _ .vmem, ⟨10, _⟩ => ⟨S1408x128, .f32⟩
  | .local _ .vmem, ⟨11, _⟩ => ⟨S1x1x256, .f32⟩
  | .local _ .vmem, ⟨12, _⟩ => ⟨S1x1x256, .f32⟩
  | .local _ .vmem, ⟨13, _⟩ => ⟨S1408x256, .f32⟩
  | .local _ .vmem, ⟨14, _⟩ => ⟨S1408x128, .f32⟩
  | .local _ .vmem, ⟨15, _⟩ => ⟨S128x1408, .f32⟩
  | .local _ .vmem, ⟨16, _⟩ => ⟨S256x256, .bf16⟩
  | .local _ .vmem, ⟨17, _⟩ => ⟨S256x256, .fp8e4m3⟩
  | .local _ .vmem, ⟨18, _⟩ => ⟨S8x256, .bf16⟩
  | _, _ => ⟨S16x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![256], ![false]⟩

def k0_mult1 (i : grid0.Coords) : BitVec 32 :=
  let arg0 : BitVec 32 := BitVec.ofNat 32 (i 0).val
  let c16_i32_126 : BitVec 32 := 16#32
  let c0_i32_127 : BitVec 32 := 0#32
  let v654 : BitVec 1 := Scalar.cmpi .eq c16_i32_126 c0_i32_127
  let c1_i32_128 : BitVec 32 := 1#32
  let v655 : BitVec 32 := Scalar.select v654 c1_i32_128 c16_i32_126
  let v656 : BitVec 32 := Scalar.remsi arg0 v655
  let c0_i32_130 : BitVec 32 := 0#32
  let v658 : BitVec 1 := Scalar.cmpi .slt v656 c0_i32_130
  let c0_i32_131 : BitVec 32 := 0#32
  let v659 : BitVec 1 := Scalar.cmpi .slt v655 c0_i32_131
  let v660 : BitVec 1 := Scalar.xori v658 v659
  let c0_i32_129 : BitVec 32 := 0#32
  let v657 : BitVec 1 := Scalar.cmpi .ne v656 c0_i32_129
  let v661 : BitVec 1 := Scalar.andi v660 v657
  let v662 : BitVec 32 := Scalar.addi v656 v655
  let v663 : BitVec 32 := Scalar.select v661 v662 v656
  let c8_i32_132 : BitVec 32 := 8#32
  let v664 : BitVec 32 := Scalar.muli v663 c8_i32_132
  v664
def k0_off1 (i : grid0.Coords) : Fin 2 → Nat :=
  let arg0 : BitVec 32 := BitVec.ofNat 32 (i 0).val
  let c16_i32_126 : BitVec 32 := 16#32
  let c0_i32_127 : BitVec 32 := 0#32
  let v654 : BitVec 1 := Scalar.cmpi .eq c16_i32_126 c0_i32_127
  let c1_i32_128 : BitVec 32 := 1#32
  let v655 : BitVec 32 := Scalar.select v654 c1_i32_128 c16_i32_126
  let v656 : BitVec 32 := Scalar.remsi arg0 v655
  let c0_i32_130 : BitVec 32 := 0#32
  let v658 : BitVec 1 := Scalar.cmpi .slt v656 c0_i32_130
  let c0_i32_131 : BitVec 32 := 0#32
  let v659 : BitVec 1 := Scalar.cmpi .slt v655 c0_i32_131
  let v660 : BitVec 1 := Scalar.xori v658 v659
  let c0_i32_129 : BitVec 32 := 0#32
  let v657 : BitVec 1 := Scalar.cmpi .ne v656 c0_i32_129
  let v661 : BitVec 1 := Scalar.andi v660 v657
  let v662 : BitVec 32 := Scalar.addi v656 v655
  let v663 : BitVec 32 := Scalar.select v661 v662 v656
  let c8_i32_132 : BitVec 32 := 8#32
  let v664 : BitVec 32 := Scalar.muli v663 c8_i32_132
  let v665 : BitVec 32 := v664
  let v666 : Index := Scalar.indexCast v665
  let c0_133 : Index := 0#32
  ![v666.toNat, 0]
def k0_mult2 (i : grid0.Coords) : BitVec 32 :=
  let arg0 : BitVec 32 := BitVec.ofNat 32 (i 0).val
  let c16_i32_203 : BitVec 32 := 16#32
  let c0_i32_204 : BitVec 32 := 0#32
  let v857 : BitVec 1 := Scalar.cmpi .eq c16_i32_203 c0_i32_204
  let c1_i32_205 : BitVec 32 := 1#32
  let v858 : BitVec 32 := Scalar.select v857 c1_i32_205 c16_i32_203
  let v859 : BitVec 32 := Scalar.remsi arg0 v858
  let c0_i32_207 : BitVec 32 := 0#32
  let v861 : BitVec 1 := Scalar.cmpi .slt v859 c0_i32_207
  let c0_i32_208 : BitVec 32 := 0#32
  let v862 : BitVec 1 := Scalar.cmpi .slt v858 c0_i32_208
  let v863 : BitVec 1 := Scalar.xori v861 v862
  let c0_i32_206 : BitVec 32 := 0#32
  let v860 : BitVec 1 := Scalar.cmpi .ne v859 c0_i32_206
  let v864 : BitVec 1 := Scalar.andi v863 v860
  let v865 : BitVec 32 := Scalar.addi v859 v858
  let v866 : BitVec 32 := Scalar.select v864 v865 v859
  let c8_i32_209 : BitVec 32 := 8#32
  let v867 : BitVec 32 := Scalar.muli v866 c8_i32_209
  v867
def k0_off2 (i : grid0.Coords) : Fin 2 → Nat :=
  let arg0 : BitVec 32 := BitVec.ofNat 32 (i 0).val
  let c16_i32_203 : BitVec 32 := 16#32
  let c0_i32_204 : BitVec 32 := 0#32
  let v857 : BitVec 1 := Scalar.cmpi .eq c16_i32_203 c0_i32_204
  let c1_i32_205 : BitVec 32 := 1#32
  let v858 : BitVec 32 := Scalar.select v857 c1_i32_205 c16_i32_203
  let v859 : BitVec 32 := Scalar.remsi arg0 v858
  let c0_i32_207 : BitVec 32 := 0#32
  let v861 : BitVec 1 := Scalar.cmpi .slt v859 c0_i32_207
  let c0_i32_208 : BitVec 32 := 0#32
  let v862 : BitVec 1 := Scalar.cmpi .slt v858 c0_i32_208
  let v863 : BitVec 1 := Scalar.xori v861 v862
  let c0_i32_206 : BitVec 32 := 0#32
  let v860 : BitVec 1 := Scalar.cmpi .ne v859 c0_i32_206
  let v864 : BitVec 1 := Scalar.andi v863 v860
  let v865 : BitVec 32 := Scalar.addi v859 v858
  let v866 : BitVec 32 := Scalar.select v864 v865 v859
  let c8_i32_209 : BitVec 32 := 8#32
  let v867 : BitVec 32 := Scalar.muli v866 c8_i32_209
  let v868 : BitVec 32 := v867
  let v869 : Index := Scalar.indexCast v868
  let c256_210 : Index := 256#32
  ![v869.toNat, 256]
def k0_mult3 (i : grid0.Coords) : BitVec 32 :=
  let arg0 : BitVec 32 := BitVec.ofNat 32 (i 0).val
  let c16_i32_280 : BitVec 32 := 16#32
  let c0_i32_281 : BitVec 32 := 0#32
  let v1060 : BitVec 1 := Scalar.cmpi .eq c16_i32_280 c0_i32_281
  let c1_i32_282 : BitVec 32 := 1#32
  let v1061 : BitVec 32 := Scalar.select v1060 c1_i32_282 c16_i32_280
  let v1062 : BitVec 32 := Scalar.remsi arg0 v1061
  let c0_i32_284 : BitVec 32 := 0#32
  let v1064 : BitVec 1 := Scalar.cmpi .slt v1062 c0_i32_284
  let c0_i32_285 : BitVec 32 := 0#32
  let v1065 : BitVec 1 := Scalar.cmpi .slt v1061 c0_i32_285
  let v1066 : BitVec 1 := Scalar.xori v1064 v1065
  let c0_i32_283 : BitVec 32 := 0#32
  let v1063 : BitVec 1 := Scalar.cmpi .ne v1062 c0_i32_283
  let v1067 : BitVec 1 := Scalar.andi v1066 v1063
  let v1068 : BitVec 32 := Scalar.addi v1062 v1061
  let v1069 : BitVec 32 := Scalar.select v1067 v1068 v1062
  let c8_i32_286 : BitVec 32 := 8#32
  let v1070 : BitVec 32 := Scalar.muli v1069 c8_i32_286
  v1070
def k0_off3 (i : grid0.Coords) : Fin 2 → Nat :=
  let arg0 : BitVec 32 := BitVec.ofNat 32 (i 0).val
  let c16_i32_280 : BitVec 32 := 16#32
  let c0_i32_281 : BitVec 32 := 0#32
  let v1060 : BitVec 1 := Scalar.cmpi .eq c16_i32_280 c0_i32_281
  let c1_i32_282 : BitVec 32 := 1#32
  let v1061 : BitVec 32 := Scalar.select v1060 c1_i32_282 c16_i32_280
  let v1062 : BitVec 32 := Scalar.remsi arg0 v1061
  let c0_i32_284 : BitVec 32 := 0#32
  let v1064 : BitVec 1 := Scalar.cmpi .slt v1062 c0_i32_284
  let c0_i32_285 : BitVec 32 := 0#32
  let v1065 : BitVec 1 := Scalar.cmpi .slt v1061 c0_i32_285
  let v1066 : BitVec 1 := Scalar.xori v1064 v1065
  let c0_i32_283 : BitVec 32 := 0#32
  let v1063 : BitVec 1 := Scalar.cmpi .ne v1062 c0_i32_283
  let v1067 : BitVec 1 := Scalar.andi v1066 v1063
  let v1068 : BitVec 32 := Scalar.addi v1062 v1061
  let v1069 : BitVec 32 := Scalar.select v1067 v1068 v1062
  let c8_i32_286 : BitVec 32 := 8#32
  let v1070 : BitVec 32 := Scalar.muli v1069 c8_i32_286
  let v1071 : BitVec 32 := v1070
  let v1072 : Index := Scalar.indexCast v1071
  let c512_287 : Index := 512#32
  ![v1072.toNat, 512]
def k0_mult4 (i : grid0.Coords) : BitVec 32 :=
  let arg0 : BitVec 32 := BitVec.ofNat 32 (i 0).val
  let c16_i32_357 : BitVec 32 := 16#32
  let c0_i32_358 : BitVec 32 := 0#32
  let v1263 : BitVec 1 := Scalar.cmpi .eq c16_i32_357 c0_i32_358
  let c1_i32_359 : BitVec 32 := 1#32
  let v1264 : BitVec 32 := Scalar.select v1263 c1_i32_359 c16_i32_357
  let v1265 : BitVec 32 := Scalar.remsi arg0 v1264
  let c0_i32_361 : BitVec 32 := 0#32
  let v1267 : BitVec 1 := Scalar.cmpi .slt v1265 c0_i32_361
  let c0_i32_362 : BitVec 32 := 0#32
  let v1268 : BitVec 1 := Scalar.cmpi .slt v1264 c0_i32_362
  let v1269 : BitVec 1 := Scalar.xori v1267 v1268
  let c0_i32_360 : BitVec 32 := 0#32
  let v1266 : BitVec 1 := Scalar.cmpi .ne v1265 c0_i32_360
  let v1270 : BitVec 1 := Scalar.andi v1269 v1266
  let v1271 : BitVec 32 := Scalar.addi v1265 v1264
  let v1272 : BitVec 32 := Scalar.select v1270 v1271 v1265
  let c8_i32_363 : BitVec 32 := 8#32
  let v1273 : BitVec 32 := Scalar.muli v1272 c8_i32_363
  v1273
def k0_off4 (i : grid0.Coords) : Fin 2 → Nat :=
  let arg0 : BitVec 32 := BitVec.ofNat 32 (i 0).val
  let c16_i32_357 : BitVec 32 := 16#32
  let c0_i32_358 : BitVec 32 := 0#32
  let v1263 : BitVec 1 := Scalar.cmpi .eq c16_i32_357 c0_i32_358
  let c1_i32_359 : BitVec 32 := 1#32
  let v1264 : BitVec 32 := Scalar.select v1263 c1_i32_359 c16_i32_357
  let v1265 : BitVec 32 := Scalar.remsi arg0 v1264
  let c0_i32_361 : BitVec 32 := 0#32
  let v1267 : BitVec 1 := Scalar.cmpi .slt v1265 c0_i32_361
  let c0_i32_362 : BitVec 32 := 0#32
  let v1268 : BitVec 1 := Scalar.cmpi .slt v1264 c0_i32_362
  let v1269 : BitVec 1 := Scalar.xori v1267 v1268
  let c0_i32_360 : BitVec 32 := 0#32
  let v1266 : BitVec 1 := Scalar.cmpi .ne v1265 c0_i32_360
  let v1270 : BitVec 1 := Scalar.andi v1269 v1266
  let v1271 : BitVec 32 := Scalar.addi v1265 v1264
  let v1272 : BitVec 32 := Scalar.select v1270 v1271 v1265
  let c8_i32_363 : BitVec 32 := 8#32
  let v1273 : BitVec 32 := Scalar.muli v1272 c8_i32_363
  let v1274 : BitVec 32 := v1273
  let v1275 : Index := Scalar.indexCast v1274
  let c768_364 : Index := 768#32
  ![v1275.toNat, 768]
def k0_mult5 (i : grid0.Coords) : BitVec 32 :=
  let arg0 : BitVec 32 := BitVec.ofNat 32 (i 0).val
  let c16_i32_434 : BitVec 32 := 16#32
  let c0_i32_435 : BitVec 32 := 0#32
  let v1466 : BitVec 1 := Scalar.cmpi .eq c16_i32_434 c0_i32_435
  let c1_i32_436 : BitVec 32 := 1#32
  let v1467 : BitVec 32 := Scalar.select v1466 c1_i32_436 c16_i32_434
  let v1468 : BitVec 32 := Scalar.remsi arg0 v1467
  let c0_i32_438 : BitVec 32 := 0#32
  let v1470 : BitVec 1 := Scalar.cmpi .slt v1468 c0_i32_438
  let c0_i32_439 : BitVec 32 := 0#32
  let v1471 : BitVec 1 := Scalar.cmpi .slt v1467 c0_i32_439
  let v1472 : BitVec 1 := Scalar.xori v1470 v1471
  let c0_i32_437 : BitVec 32 := 0#32
  let v1469 : BitVec 1 := Scalar.cmpi .ne v1468 c0_i32_437
  let v1473 : BitVec 1 := Scalar.andi v1472 v1469
  let v1474 : BitVec 32 := Scalar.addi v1468 v1467
  let v1475 : BitVec 32 := Scalar.select v1473 v1474 v1468
  let c8_i32_440 : BitVec 32 := 8#32
  let v1476 : BitVec 32 := Scalar.muli v1475 c8_i32_440
  v1476
def k0_off5 (i : grid0.Coords) : Fin 2 → Nat :=
  let arg0 : BitVec 32 := BitVec.ofNat 32 (i 0).val
  let c16_i32_434 : BitVec 32 := 16#32
  let c0_i32_435 : BitVec 32 := 0#32
  let v1466 : BitVec 1 := Scalar.cmpi .eq c16_i32_434 c0_i32_435
  let c1_i32_436 : BitVec 32 := 1#32
  let v1467 : BitVec 32 := Scalar.select v1466 c1_i32_436 c16_i32_434
  let v1468 : BitVec 32 := Scalar.remsi arg0 v1467
  let c0_i32_438 : BitVec 32 := 0#32
  let v1470 : BitVec 1 := Scalar.cmpi .slt v1468 c0_i32_438
  let c0_i32_439 : BitVec 32 := 0#32
  let v1471 : BitVec 1 := Scalar.cmpi .slt v1467 c0_i32_439
  let v1472 : BitVec 1 := Scalar.xori v1470 v1471
  let c0_i32_437 : BitVec 32 := 0#32
  let v1469 : BitVec 1 := Scalar.cmpi .ne v1468 c0_i32_437
  let v1473 : BitVec 1 := Scalar.andi v1472 v1469
  let v1474 : BitVec 32 := Scalar.addi v1468 v1467
  let v1475 : BitVec 32 := Scalar.select v1473 v1474 v1468
  let c8_i32_440 : BitVec 32 := 8#32
  let v1476 : BitVec 32 := Scalar.muli v1475 c8_i32_440
  let v1477 : BitVec 32 := v1476
  let v1478 : Index := Scalar.indexCast v1477
  let c1024_441 : Index := 1024#32
  ![v1478.toNat, 1024]
def k0_mult6 (i : grid0.Coords) : BitVec 32 :=
  let arg0 : BitVec 32 := BitVec.ofNat 32 (i 0).val
  let c16_i32_511 : BitVec 32 := 16#32
  let c0_i32_512 : BitVec 32 := 0#32
  let v1669 : BitVec 1 := Scalar.cmpi .eq c16_i32_511 c0_i32_512
  let c1_i32_513 : BitVec 32 := 1#32
  let v1670 : BitVec 32 := Scalar.select v1669 c1_i32_513 c16_i32_511
  let v1671 : BitVec 32 := Scalar.remsi arg0 v1670
  let c0_i32_515 : BitVec 32 := 0#32
  let v1673 : BitVec 1 := Scalar.cmpi .slt v1671 c0_i32_515
  let c0_i32_516 : BitVec 32 := 0#32
  let v1674 : BitVec 1 := Scalar.cmpi .slt v1670 c0_i32_516
  let v1675 : BitVec 1 := Scalar.xori v1673 v1674
  let c0_i32_514 : BitVec 32 := 0#32
  let v1672 : BitVec 1 := Scalar.cmpi .ne v1671 c0_i32_514
  let v1676 : BitVec 1 := Scalar.andi v1675 v1672
  let v1677 : BitVec 32 := Scalar.addi v1671 v1670
  let v1678 : BitVec 32 := Scalar.select v1676 v1677 v1671
  let c8_i32_517 : BitVec 32 := 8#32
  let v1679 : BitVec 32 := Scalar.muli v1678 c8_i32_517
  v1679
def k0_off6 (i : grid0.Coords) : Fin 2 → Nat :=
  let arg0 : BitVec 32 := BitVec.ofNat 32 (i 0).val
  let c16_i32_511 : BitVec 32 := 16#32
  let c0_i32_512 : BitVec 32 := 0#32
  let v1669 : BitVec 1 := Scalar.cmpi .eq c16_i32_511 c0_i32_512
  let c1_i32_513 : BitVec 32 := 1#32
  let v1670 : BitVec 32 := Scalar.select v1669 c1_i32_513 c16_i32_511
  let v1671 : BitVec 32 := Scalar.remsi arg0 v1670
  let c0_i32_515 : BitVec 32 := 0#32
  let v1673 : BitVec 1 := Scalar.cmpi .slt v1671 c0_i32_515
  let c0_i32_516 : BitVec 32 := 0#32
  let v1674 : BitVec 1 := Scalar.cmpi .slt v1670 c0_i32_516
  let v1675 : BitVec 1 := Scalar.xori v1673 v1674
  let c0_i32_514 : BitVec 32 := 0#32
  let v1672 : BitVec 1 := Scalar.cmpi .ne v1671 c0_i32_514
  let v1676 : BitVec 1 := Scalar.andi v1675 v1672
  let v1677 : BitVec 32 := Scalar.addi v1671 v1670
  let v1678 : BitVec 32 := Scalar.select v1676 v1677 v1671
  let c8_i32_517 : BitVec 32 := 8#32
  let v1679 : BitVec 32 := Scalar.muli v1678 c8_i32_517
  let v1680 : BitVec 32 := v1679
  let v1681 : Index := Scalar.indexCast v1680
  let c1280_518 : Index := 1280#32
  ![v1681.toNat, 1280]
def k0_cond2 (i : grid0.Coords) : BitVec 1 :=
  let arg0 : BitVec 32 := BitVec.ofNat 32 (i 0).val
  let c16_i32_526 : BitVec 32 := 16#32
  let c0_i32_527 : BitVec 32 := 0#32
  let v1695 : BitVec 1 := Scalar.cmpi .eq c16_i32_526 c0_i32_527
  let c1_i32_528 : BitVec 32 := 1#32
  let v1696 : BitVec 32 := Scalar.select v1695 c1_i32_528 c16_i32_526
  let v1697 : BitVec 32 := Scalar.remsi arg0 v1696
  let c0_i32_530 : BitVec 32 := 0#32
  let v1699 : BitVec 1 := Scalar.cmpi .slt v1697 c0_i32_530
  let c0_i32_531 : BitVec 32 := 0#32
  let v1700 : BitVec 1 := Scalar.cmpi .slt v1696 c0_i32_531
  let v1701 : BitVec 1 := Scalar.xori v1699 v1700
  let c0_i32_529 : BitVec 32 := 0#32
  let v1698 : BitVec 1 := Scalar.cmpi .ne v1697 c0_i32_529
  let v1702 : BitVec 1 := Scalar.andi v1701 v1698
  let v1703 : BitVec 32 := Scalar.addi v1697 v1696
  let v1704 : BitVec 32 := Scalar.select v1702 v1703 v1697
  let c15_i32 : BitVec 32 := 15#32
  let v1705 : BitVec 1 := Scalar.cmpi .eq v1704 c15_i32
  let v1706 : BitVec 32 := Scalar.extui v1705
  let c0_i32_532 : BitVec 32 := 0#32
  let v1707 : BitVec 1 := Scalar.cmpi .ne v1706 c0_i32_532
  v1707

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S44x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1408x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1408x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_d" => some ((1 / 1408 : ℝ) : EReal)
  | _ => none
-- ==== ReferenceIdeal.lean ====
abbrev S16x4096x1408 : Shape := ⟨3, ![16, 4096, 1408]⟩
abbrev S1408 : Shape := ⟨1, ![1408]⟩
abbrev S65536x1408 : Shape := ⟨2, ![65536, 1408]⟩
abbrev S_ : Shape := ⟨0, ![]⟩
abbrev S65536 : Shape := ⟨1, ![65536]⟩
abbrev S65536x1 : Shape := ⟨2, ![65536, 1]⟩
abbrev S1x1408 : Shape := ⟨2, ![1, 1408]⟩
abbrev S65536x44x32 : Shape := ⟨3, ![65536, 44, 32]⟩
abbrev S65536x44 : Shape := ⟨2, ![65536, 44]⟩
abbrev S65536x44x1 : Shape := ⟨3, ![65536, 44, 1]⟩
abbrev S2048x32x1408 : Shape := ⟨3, ![2048, 32, 1408]⟩
abbrev S2048x1408 : Shape := ⟨2, ![2048, 1408]⟩
abbrev S2048x1x1408 : Shape := ⟨3, ![2048, 1, 1408]⟩
abbrev S1408x65536 : Shape := ⟨2, ![1408, 65536]⟩
abbrev S1408x2048 : Shape := ⟨2, ![1408, 2048]⟩

abbrev nBuf : Space → Nat
  | .hbm => 105
  | .vmem => 0
  | .smem => 0
  | _ => 0

abbrev bufTy : (tb : Table) → Fin (tcTables nBuf tb) → BufTy
  | .hbm, ⟨0, _⟩ => ⟨S16x4096x1408, .bf16⟩
  | .hbm, ⟨1, _⟩ => ⟨S1408, .bf16⟩
  | .hbm, ⟨2, _⟩ => ⟨S65536x1408, .bf16⟩
  | .hbm, ⟨3, _⟩ => ⟨S65536x1408, .f32⟩
  | .hbm, ⟨4, _⟩ => ⟨S65536x1408, .f32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S_, .f32⟩
  | .hbm, ⟨11, _⟩ => ⟨S65536, .f32⟩
  | .hbm, ⟨12, _⟩ => ⟨S65536, .f32⟩
  | .hbm, ⟨13, _⟩ => ⟨S65536, .f32⟩
  | .hbm, ⟨14, _⟩ => ⟨S65536x1, .f32⟩
  | .hbm, ⟨15, _⟩ => ⟨S65536x1408, .f32⟩
  | .hbm, ⟨16, _⟩ => ⟨S65536x1408, .f32⟩
  | .hbm, ⟨17, _⟩ => ⟨S1408, .f32⟩
  | .hbm, ⟨18, _⟩ => ⟨S1x1408, .f32⟩
  | .hbm, ⟨19, _⟩ => ⟨S65536x1408, .f32⟩
  | .hbm, ⟨20, _⟩ => ⟨S65536x1408, .f32⟩
  | .hbm, ⟨21, _⟩ => ⟨S65536x44x32, .f32⟩
  | .hbm, ⟨22, _⟩ => ⟨S65536x44x32, .f32⟩
  | .hbm, ⟨23, _⟩ => ⟨S_, .f32⟩
  | .hbm, ⟨24, _⟩ => ⟨S65536x44, .f32⟩
  | .hbm, ⟨25, _⟩ => ⟨S65536x44x1, .f32⟩
  | .hbm, ⟨26, _⟩ => ⟨S_, .f32⟩
  | .hbm, ⟨27, _⟩ => ⟨S65536x44x1, .f32⟩
  | .hbm, ⟨28, _⟩ => ⟨S65536x44x1, .f32⟩
  | .hbm, ⟨29, _⟩ => ⟨S_, .f32⟩
  | .hbm, ⟨30, _⟩ => ⟨S65536x44x1, .f32⟩
  | .hbm, ⟨31, _⟩ => ⟨S_, .f32⟩
  | .hbm, ⟨32, _⟩ => ⟨S65536x44x1, .f32⟩
  | .hbm, ⟨33, _⟩ => ⟨S65536x44x1, .i1⟩
  | .hbm, ⟨34, _⟩ => ⟨S65536x44x1, .f32⟩
  | .hbm, ⟨35, _⟩ => ⟨S65536x44x1, .f32⟩
  | .hbm, ⟨36, _⟩ => ⟨S65536x44x1, .f32⟩
  | .hbm, ⟨37, _⟩ => ⟨S65536x44x1, .f32⟩
  | .hbm, ⟨38, _⟩ => ⟨S_, .f32⟩
  | .hbm, ⟨39, _⟩ => ⟨S65536x44x1, .f32⟩
  | .hbm, ⟨40, _⟩ => ⟨S65536x44x1, .f32⟩
  | .hbm, ⟨41, _⟩ => ⟨S_, .f32⟩
  | .hbm, ⟨42, _⟩ => ⟨S_, .f32⟩
  | .hbm, ⟨43, _⟩ => ⟨S65536x44x1, .f32⟩
  | .hbm, ⟨44, _⟩ => ⟨S65536x44x1, .f32⟩
  | .hbm, ⟨45, _⟩ => ⟨S65536x44x1, .f32⟩
  | .hbm, ⟨46, _⟩ => ⟨S65536x44x1, .f32⟩
  | .hbm, ⟨47, _⟩ => ⟨S65536x44x1, .f32⟩
  | .hbm, ⟨48, _⟩ => ⟨S65536x44x1, .bf16⟩
  | .hbm, ⟨49, _⟩ => ⟨S65536x44x1, .f32⟩
  | .hbm, ⟨50, _⟩ => ⟨S65536x44x32, .f32⟩
  | .hbm, ⟨51, _⟩ => ⟨S65536x44x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S65536x44x32, .f32⟩
  | .hbm, ⟨56, _⟩ => ⟨S65536x44x32, .f32⟩
  | .hbm, ⟨57, _⟩ => ⟨S_, .f32⟩
  | .hbm, ⟨58, _⟩ => ⟨S65536x44x32, .f32⟩
  | .hbm, ⟨59, _⟩ => ⟨S65536x44x32, .f32⟩
  | .hbm, ⟨60, _⟩ => ⟨S65536x44x32, .fp8e4m3⟩
  | .hbm, ⟨61, _⟩ => ⟨S2048x32x1408, .f32⟩
  | .hbm, ⟨62, _⟩ => ⟨S2048x32x1408, .f32⟩
  | .hbm, ⟨63, _⟩ => ⟨S_, .f32⟩
  | .hbm, ⟨64, _⟩ => ⟨S2048x1408, .f32⟩
  | .hbm, ⟨65, _⟩ => ⟨S2048x1x1408, .f32⟩
  | .hbm, ⟨66, _⟩ => ⟨S_, .f32⟩
  | .hbm, ⟨67, _⟩ => ⟨S2048x1x1408, .f32⟩
  | .hbm, ⟨68, _⟩ => ⟨S2048x1x1408, .f32⟩
  | .hbm, ⟨69, _⟩ => ⟨S_, .f32⟩
  | .hbm, ⟨70, _⟩ => ⟨S2048x1x1408, .f32⟩
  | .hbm, ⟨71, _⟩ => ⟨S_, .f32⟩
  | .hbm, ⟨72, _⟩ => ⟨S2048x1x1408, .f32⟩
  | .hbm, ⟨73, _⟩ => ⟨S2048x1x1408, .i1⟩
  | .hbm, ⟨74, _⟩ => ⟨S2048x1x1408, .f32⟩
  | .hbm, ⟨75, _⟩ => ⟨S2048x1x1408, .f32⟩
  | .hbm, ⟨76, _⟩ => ⟨S2048x1x1408, .f32⟩
  | .hbm, ⟨77, _⟩ => ⟨S2048x1x1408, .f32⟩
  | .hbm, ⟨78, _⟩ => ⟨S_, .f32⟩
  | .hbm, ⟨79, _⟩ => ⟨S2048x1x1408, .f32⟩
  | .hbm, ⟨80, _⟩ => ⟨S2048x1x1408, .f32⟩
  | .hbm, ⟨81, _⟩ => ⟨S_, .f32⟩
  | .hbm, ⟨82, _⟩ => ⟨S_, .f32⟩
  | .hbm, ⟨83, _⟩ => ⟨S2048x1x1408, .f32⟩
  | .hbm, ⟨84, _⟩ => ⟨S2048x1x1408, .f32⟩
  | .hbm, ⟨85, _⟩ => ⟨S2048x1x1408, .f32⟩
  | .hbm, ⟨86, _⟩ => ⟨S2048x1x1408, .f32⟩
  | .hbm, ⟨87, _⟩ => ⟨S2048x1x1408, .f32⟩
  | .hbm, ⟨88, _⟩ => ⟨S2048x32x1408, .f32⟩
  | .hbm, ⟨89, _⟩ => ⟨S2048x32x1408, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S2048x32x1408, .f32⟩
  | .hbm, ⟨94, _⟩ => ⟨S2048x32x1408, .f32⟩
  | .hbm, ⟨95, _⟩ => ⟨S_, .f32⟩
  | .hbm, ⟨96, _⟩ => ⟨S2048x32x1408, .f32⟩
  | .hbm, ⟨97, _⟩ => ⟨S2048x32x1408, .f32⟩
  | .hbm, ⟨98, _⟩ => ⟨S2048x32x1408, .fp8e4m3⟩
  | .hbm, ⟨99, _⟩ => ⟨S65536x1408, .fp8e4m3⟩
  | .hbm, ⟨100, _⟩ => ⟨S65536x44, .f32⟩
  | .hbm, ⟨101, _⟩ => ⟨S65536x1408, .fp8e4m3⟩
  | .hbm, ⟨102, _⟩ => ⟨S1408x65536, .fp8e4m3⟩
  | .hbm, ⟨103, _⟩ => ⟨S2048x1408, .f32⟩
  | .hbm, ⟨104, _⟩ => ⟨S1408x2048, .f32⟩
  | _, _ => ⟨S16x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_cst_9 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_call2_v0 : Ref sig .tc := ⟨.hbm, 82, rfl⟩
abbrev main_call2_v1 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_cst_17 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Proof.W.Cut.lean ====
module

public import proofs.«01_k».proof.Proof.Gen.KernelIdeal.Skeleton
public import Idealize.ShloMosaic.Lib.Tactic.Stretches
import all Idealize.ShloMosaic.Lib.Tactic.Stretches

@[expose] public section

namespace Cert.KernelIdeal.Gen

open Idealize.ShloMosaic Idealize.SL.Sem

variable {F : FTy → Type} [FloatOps F] [Named F]

set_option maxRecDepth 65536

cut_chain mb := cc0_rmsnorm_quant_skel at 2, 39
cut_chain pb := k0_part5_skel at 2

end Cert.KernelIdeal.Gen

end
-- ==== Proof.W.Body.lean ====
module

public import proofs.«01_k».proof.Proof.W.Cut
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The stretch of the body that runs at every point, with `κ` for what comes after it. -/
abbrev midProg (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) {R : Type} (κ : Prog (TpuEff nD τ sig (Elt F) Λ₀ .tc) R) : Prog (TpuEff nD τ sig (Elt F) Λ₀ .tc) R :=
  pb1.tail (F := F) i arg1 arg8 arg11 >>= fun r => mb2 (F := F) i arg1 harg1 arg2 harg2 arg3 harg3 arg4 harg4 arg5 harg5 arg6 harg6 arg7 harg7 arg8 harg8 arg9 harg9 arg10 harg10 arg11 harg11 arg12 harg12 arg13 harg13 r.1 r.2.1 r.2.2 κ

/-- Whatever follows the first part follows its stretch after the initialisation. -/
theorem part5_bind (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) {R : Type}
    (g : (Σ' (_ : BitVec 32) (_ : FVec F S256x256 .f32), FVec F S8x256 .f32) → Prog (TpuEff nD τ sig (Elt F) Λ₀ .tc) R) :
    k0_part5_skel (F := F) i arg1 harg1 arg2 harg2 arg3 harg3 arg4 harg4 arg5 harg5 arg6 harg6 arg7 harg7 arg8 harg8 arg9 harg9 arg10 harg10 arg11 harg11 arg12 harg12 arg13 harg13 >>= g = pb1 (F := F) i arg1 harg1 arg2 harg2 arg3 harg3 arg4 harg4 arg5 harg5 arg6 harg6 arg7 harg7 arg8 harg8 arg9 harg9 arg10 harg10 arg11 harg11 arg12 harg12 arg13 harg13 (pb1.tail (F := F) i arg1 arg8 arg11 >>= g) := by
  rw [pb1.eq]
  generalize pb1.tail (F := F) i arg1 arg8 arg11 = t
  unfold pb1
  by_cases h : (Scalar.cmpi .ne (Scalar.extui (Scalar.cmpi .eq (BitVec.ofNat 32 (i 0).val) 0#32)) 0#32) = 1#1
  · simp only [dif_pos h]; rfl
  · simp only [dif_neg h]

/-- The body is the initialisation (at the first point), the arithmetic of the point, and the last copy (at every sixteenth point). -/
theorem skel_eq (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) :
    cc0_rmsnorm_quant_skel (F := F) i arg1 harg1 arg2 harg2 arg3 harg3 arg4 harg4 arg5 harg5 arg6 harg6 arg7 harg7 arg8 harg8 arg9 harg9 arg10 harg10 arg11 harg11 arg12 harg12 arg13 harg13
      = pb1 (F := F) i arg1 harg1 arg2 harg2 arg3 harg3 arg4 harg4 arg5 harg5 arg6 harg6 arg7 harg7 arg8 harg8 arg9 harg9 arg10 harg10 arg11 harg11 arg12 harg12 arg13 harg13 (midProg (F := F) i arg1 harg1 arg2 harg2 arg3 harg3 arg4 harg4 arg5 harg5 arg6 harg6 arg7 harg7 arg8 harg8 arg9 harg9 arg10 harg10 arg11 harg11 arg12 harg12 arg13 harg13 (mb2.tail (F := F) i arg1 harg1 arg2 harg2 arg3 harg3 arg4 harg4 arg5 harg5 arg6 harg6 arg7 harg7 arg8 harg8 arg9 harg9 arg10 harg10 arg11 harg11 arg12 harg12 arg13 harg13)) := by
  rw [mb1.eq]
  simp only [mb2.eq]
  unfold midProg
  rw [← part5_bind, ← k0_part5_eq_skeleton]

end Cert.KernelIdeal.Gen

end
-- ==== Proof.W.Offsets.lean ====
module

public import proofs.«01_k».proof.Proof.Gen.KernelIdeal.Frame

@[expose] public section

set_option maxRecDepth 65536

namespace Cert.KernelIdeal.Gen

open Idealize.ShloMosaic Idealize.ShloMosaic.Tactic

/-- The position of a point within its run of sixteen, as the kernel computes it from the grid coordinate. -/
def phaseWord (n : Nat) : BitVec 32 :=
  let b : BitVec 32 := Scalar.select (Scalar.cmpi .eq 16#32 0#32) 1#32 16#32
  let r : BitVec 32 := Scalar.remsi (BitVec.ofNat 32 n) b
  Scalar.select (Scalar.andi (Scalar.xori (Scalar.cmpi .slt r 0#32) (Scalar.cmpi .slt b 0#32)) (Scalar.cmpi .ne r 0#32)) (Scalar.addi r b) r

theorem phaseWord_row : ∀ n : Fin 256, (Scalar.indexCast (Scalar.muli (phaseWord n.val) 8#32) : Index).toNat = 8 * (n.val % 16) := by
  decide +kernel

theorem phaseWord_last : ∀ n : Fin 256, Scalar.cmpi .ne (Scalar.extui (Scalar.cmpi .eq (phaseWord n.val) 15#32) : BitVec 32) 0#32 = 1#1 ↔ n.val % 16 = 15 := by
  decide +kernel

/-- Where a point's column scales of column tile 0 go in the scratch that collects sixteen points. -/
theorem off1_eq (i : grid0.Coords) : k0_off1 i = ![8 * ((i 0).val % 16), 0] :=
  congrArg (fun a => ![a, 0]) (phaseWord_row ⟨(i 0).val, (i 0).isLt⟩)
instance (i : grid0.Coords) : ClosedOff (k0_off1 i) := ⟨![8 * ((i 0).val % 16), 0], off1_eq i⟩

/-- Where a point's column scales of column tile 1 go in the scratch that collects sixteen points. -/
theorem off2_eq (i : grid0.Coords) : k0_off2 i = ![8 * ((i 0).val % 16), 256] :=
  congrArg (fun a => ![a, 256]) (phaseWord_row ⟨(i 0).val, (i 0).isLt⟩)
instance (i : grid0.Coords) : ClosedOff (k0_off2 i) := ⟨![8 * ((i 0).val % 16), 256], off2_eq i⟩

/-- Where a point's column scales of column tile 2 go in the scratch that collects sixteen points. -/
theorem off3_eq (i : grid0.Coords) : k0_off3 i = ![8 * ((i 0).val % 16), 512] :=
  congrArg (fun a => ![a, 512]) (phaseWord_row ⟨(i 0).val, (i 0).isLt⟩)
instance (i : grid0.Coords) : ClosedOff (k0_off3 i) := ⟨![8 * ((i 0).val % 16), 512], off3_eq i⟩

/-- Where a point's column scales of column tile 3 go in the scratch that collects sixteen points. -/
theorem off4_eq (i : grid0.Coords) : k0_off4 i = ![8 * ((i 0).val % 16), 768] :=
  congrArg (fun a => ![a, 768]) (phaseWord_row ⟨(i 0).val, (i 0).isLt⟩)
instance (i : grid0.Coords) : ClosedOff (k0_off4 i) := ⟨![8 * ((i 0).val % 16), 768], off4_eq i⟩

/-- Where a point's column scales of column tile 4 go in the scratch that collects sixteen points. -/
theorem off5_eq (i : grid0.Coords) : k0_off5 i = ![8 * ((i 0).val % 16), 1024] :=
  congrArg (fun a => ![a, 1024]) (phaseWord_row ⟨(i 0).val, (i 0).isLt⟩)
instance (i : grid0.Coords) : ClosedOff (k0_off5 i) := ⟨![8 * ((i 0).val % 16), 1024], off5_eq i⟩

/-- Where a point's column scales of column tile 5 go in the scratch that collects sixteen points. -/
theorem off6_eq (i : grid0.Coords) : k0_off6 i = ![8 * ((i 0).val % 16), 1280] :=
  congrArg (fun a => ![a, 1280]) (phaseWord_row ⟨(i 0).val, (i 0).isLt⟩)
instance (i : grid0.Coords) : ClosedOff (k0_off6 i) := ⟨![8 * ((i 0).val % 16), 1280], off6_eq i⟩

/-- The last copy is made at every sixteenth point. -/
theorem cond2_iff (i : grid0.Coords) : k0_cond2 i = 1#1 ↔ (i 0).val % 16 = 15 :=
  phaseWord_last ⟨(i 0).val, (i 0).isLt⟩

end Cert.KernelIdeal.Gen

end
-- ==== Proof.W.Mid.lean ====
module

public import proofs.«01_k».proof.Proof.W.Body
public import proofs.«01_k».proof.Proof.W.Offsets

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1000000 in
/-- The arithmetic of a point: from the input block, the four fixed tables and the column-scale scratch, the pieces that
    it writes into each output block and into the scratch, with the proof that it does. -/
noncomputable def midRun (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole)
    (x0 : Vec F S256x1408 .bf16) (xs9 : Vec F S1408x128 .f32) (xs10 : Vec F S128x1408 .f32) (xs11 : Vec F S256x256 .bf16) (xs12 : Vec F S256x256 .fp8e4m3) (xs13 : Vec F S8x256 .bf16) :
    Σ' (L3 : List (View.Piece (Elt F) S256x1408 .fp8e4m3)), Σ' (L4 : List (View.Piece (Elt F) S44x256 .f32)), Σ' (L5 : List (View.Piece (Elt F) S1408x256 .fp8e4m3)), Σ' (L7 : List (View.Piece (Elt F) S1x1x256 .f32)), { L10 : List (View.Piece (Elt F) S128x1408 .f32) //
      ∀ (R : Type) (κ : Prog (TpuEff nD τ sig (Elt F) Λ₀ .tc) R) (E : Set ℕ) (K : R → sProp (MT nD τ sig Unit (Elt F) ℕ (UR sig nD τ) ℕ)),
        iprop(owns (c : Thread nD τ) arg1 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10 ∗ owns (c : Thread nD τ) arg11 fullShare xs11 ∗ owns (c : Thread nD τ) arg12 fullShare xs12 ∗ owns (c : Thread nD τ) arg13 fullShare xs13
            ∗ (iprop(owns (c : Thread nD τ) arg1 fullShare x0 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg7.view.loc (c : Thread nD τ) ↦[arg7.view.set]{fullShare} arg7.view.writes (Elt F) f L7) ∗ (∃ d, owns (c : Thread nD τ) arg8 fullShare d) ∗ owns (c : Thread nD τ) arg9 fullShare xs9 ∗ (arg10.view.loc (c : Thread nD τ) ↦[arg10.view.set]{fullShare} arg10.view.writes (Elt F) (harg10.unread xs10) L10) ∗ owns (c : Thread nD τ) arg11 fullShare xs11 ∗ owns (c : Thread nD τ) arg12 fullShare xs12 ∗ owns (c : Thread nD τ) arg13 fullShare xs13) -∗ wp frame (wpE (defs₀ (F := F)) Variants.none c none) E κ K))
          ⊢ wp frame (wpE (defs₀ (F := F)) Variants.none c none) E (midProg (F := F) i arg1 harg1 arg2 harg2 arg3 harg3 arg4 harg4 arg5 harg5 arg6 harg6 arg7 harg7 arg8 harg8 arg9 harg9 arg10 harg10 arg11 harg11 arg12 harg12 arg13 harg13 κ) K } := by
  refine ⟨?_, ?_, ?_, ?_, ?_, fun R κ E K => ?run⟩
  case run =>
    unfold midProg pb1.tail mb2
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f1, %hf1, H1⟩, ⟨%d3, %f3, -, H3⟩, ⟨%d4, %f4, -, H4⟩, ⟨%d5, %f5, -, H5⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf1; obtain rfl := harg9.eq_unread hf9; obtain rfl := harg11.eq_unread hf11; obtain rfl := harg12.eq_unread hf12; obtain rfl := harg13.eq_unread hf13; obtain rfl := harg10.eq_unread hf10
    sl_exec
    iapply Hk
    isplitl [H1]
    · iexists _; isplitr; · ipureintro; exact harg1.read_unread _
      iexact H1
    isplitl [H3]
    · iexists _; iexact H3
    isplitl [H4]
    · iexists _; iexact H4
    isplitl [H5]
    · iexists _; iexact H5
    isplitl [H7]
    · iexists _; iexact H7
    isplitl [H8]
    · iexists _; iexists _; isplitr; swap; · iexact H8
      ipureintro; rfl
    isplitl [H9]
    · iexists _; isplitr; · ipureintro; exact harg9.read_unread _
      iexact H9
    isplitl [H10]
    · iexact H10
    isplitl [H11]
    · iexists _; isplitr; · ipureintro; exact harg11.read_unread _
      iexact H11
    isplitl [H12]
    · iexists _; isplitr; · ipureintro; exact harg12.read_unread _
      iexact H12
    iexists _; isplitr; · ipureintro; exact harg13.read_unread _
    iexact H13

end Cert.KernelIdeal.Gen

end
-- ==== Proof.W.Init.lean ====
module

public import proofs.«01_k».proof.Proof.W.Body
public import proofs.«01_k».proof.Proof.W.Offsets

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The condition under which the body initialises its tables: the first point. -/
abbrev cond0_0 (i : grid0.Coords) : Prop := (Scalar.cmpi .ne (Scalar.extui (Scalar.cmpi .eq (BitVec.ofNat 32 (i 0).val) 0#32)) 0#32) = 1#1

/-- It holds at the first point only. -/
theorem cond0_0_iff (i : grid0.Coords) : cond0_0 i ↔ (i 0).val = 0 := by
  have h : (i 0).val < 256 := (i 0).isLt
  simp only [cond0_0]
  word_cmp

set_option maxHeartbeats 1000000 in
/-- The initialisation: from the weights, the pieces that it writes into the four fixed tables, with the proof that it does. -/
noncomputable def initRun (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) (hc0 : cond0_0 i) (x1 : Vec F S1x1408 .bf16) :
    Σ' (L9 : List (View.Piece (Elt F) S1408x128 .f32)), Σ' (L11 : List (View.Piece (Elt F) S256x256 .bf16)), Σ' (L12 : List (View.Piece (Elt F) S256x256 .fp8e4m3)), { L13 : List (View.Piece (Elt F) S8x256 .bf16) //
      ∀ (R : Type) (κ : Prog (TpuEff nD τ sig (Elt F) Λ₀ .tc) R) (E : Set ℕ) (K : R → sProp (MT nD τ sig Unit (Elt F) ℕ (UR sig nD τ) ℕ)),
        iprop(owns (c : Thread nD τ) arg2 fullShare x1 ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x1 ∗ (∃ f, arg9.view.loc (c : Thread nD τ) ↦[arg9.view.set]{fullShare} arg9.view.writes (Elt F) f L9) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ wp frame (wpE (defs₀ (F := F)) Variants.none c none) E κ K))
          ⊢ wp frame (wpE (defs₀ (F := F)) Variants.none c none) E (pb1 (F := F) i arg1 harg1 arg2 harg2 arg3 harg3 arg4 harg4 arg5 harg5 arg6 harg6 arg7 harg7 arg8 harg8 arg9 harg9 arg10 harg10 arg11 harg11 arg12 harg12 arg13 harg13 κ) K } := by
  refine ⟨?_, ?_, ?_, ?_, fun R κ E K => ?run⟩
  case run =>
    unfold pb1
    simp only [k0_part1_eq_skeleton, k0_part2_eq_skeleton, k0_part3_eq_skeleton]
    unfold owns
    iintro ⟨⟨%f2, %hf2, H2⟩, ⟨%d9, %f9, -, H9⟩, ⟨%d11, %f11, -, H11⟩, ⟨%d12, %f12, -, H12⟩, ⟨%d13, %f13, -, H13⟩, Hk⟩
    obtain rfl := harg2.eq_unread hf2
    sl_exec (disch := first | sl_exact hc0)
    iapply Hk
    isplitl [H2]
    · iexists _; isplitr; · ipureintro; exact harg2.read_unread _
      iexact H2
    isplitl [H9]
    · iexists _; iexact H9
    isplitl [H11]
    · iexists _; iexact H11
    isplitl [H12]
    · iexists _; iexact H12
    iexists _; iexact H13

end Cert.KernelIdeal.Gen

end
-- ==== Proof.W.Tail.lean ====
module

public import proofs.«01_k».proof.Proof.W.Body
public import proofs.«01_k».proof.Proof.W.Offsets

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 1000000 in
/-- The last copy: the pieces that it writes into the column-scale output from the scratch, with the proof that it does. -/
noncomputable def tailRun (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) (hc2 : k0_cond2 i = 1#1) (xs10 : Vec F S128x1408 .f32) :
    { L6 : List (View.Piece (Elt F) S1408x128 .f32) //
      ∀ (E : Set ℕ) (K : PUnit → sProp (MT nD τ sig Unit (Elt F) ℕ (UR sig nD τ) ℕ)),
        iprop((∃ d, owns (c : Thread nD τ) arg6 fullShare d) ∗ owns (c : Thread nD τ) arg10 fullShare xs10
            ∗ (iprop((∃ f, arg6.view.loc (c : Thread nD τ) ↦[arg6.view.set]{fullShare} arg6.view.writes (Elt F) f L6) ∗ owns (c : Thread nD τ) arg10 fullShare xs10) -∗ K ⟨⟩))
          ⊢ wp frame (wpE (defs₀ (F := F)) Variants.none c none) E (mb2.tail (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    unfold mb2.tail
    simp only [k0_part4_eq_skeleton]
    unfold owns
    iintro ⟨⟨%d6, %f6, -, H6⟩, ⟨%f10, %hf10, H10⟩, Hk⟩
    obtain rfl := harg10.eq_unread hf10
    sl_exec (disch := first | sl_exact hc2)
    sl_step
    iapply Hk
    isplitl [H6]
    · iexists _; iexact H6
    iexists _; isplitr; · ipureintro; exact harg10.read_unread _
    iexact H10

end Cert.KernelIdeal.Gen

end
-- ==== Proof.W.Outs.lean ====
module

public import proofs.«01_k».proof.Proof.W.Mid
public import proofs.«01_k».proof.Proof.W.Init
public import proofs.«01_k».proof.Proof.W.Tail

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The buffers of a point -/

/-- The current staging buffer of window 0 at point `t`. -/
abbrev ms0_0 (t : Fin cfg0.N) : Memref sig .tc .vmem S256x1408 .bf16 := win0_0.stage (cfg0.slots t 0)
/-- It is a whole buffer. -/
abbrev hs0_0 (t : Fin cfg0.N) : (ms0_0 t).IsWhole := hstage0_0 ((cfg0.slots t 0).cast nbuf0_0)
/-- The current staging buffer of window 1 at point `t`. -/
abbrev ms0_1 (t : Fin cfg0.N) : Memref sig .tc .vmem S1x1408 .bf16 := win0_1.stage (cfg0.slots t 1)
/-- It is a whole buffer. -/
abbrev hs0_1 (t : Fin cfg0.N) : (ms0_1 t).IsWhole := hstage0_1 ((cfg0.slots t 1).cast nbuf0_1)
/-- The current staging buffer of window 2 at point `t`. -/
abbrev ms0_2 (t : Fin cfg0.N) : Memref sig .tc .vmem S256x1408 .fp8e4m3 := win0_2.stage (cfg0.slots t 2)
/-- It is a whole buffer. -/
abbrev hs0_2 (t : Fin cfg0.N) : (ms0_2 t).IsWhole := hstage0_2 ((cfg0.slots t 2).cast nbuf0_2)
/-- The current staging buffer of window 3 at point `t`. -/
abbrev ms0_3 (t : Fin cfg0.N) : Memref sig .tc .vmem S44x256 .f32 := win0_3.stage (cfg0.slots t 3)
/-- It is a whole buffer. -/
abbrev hs0_3 (t : Fin cfg0.N) : (ms0_3 t).IsWhole := hstage0_3 ((cfg0.slots t 3).cast nbuf0_3)
/-- The current staging buffer of window 4 at point `t`. -/
abbrev ms0_4 (t : Fin cfg0.N) : Memref sig .tc .vmem S1408x256 .fp8e4m3 := win0_4.stage (cfg0.slots t 4)
/-- It is a whole buffer. -/
abbrev hs0_4 (t : Fin cfg0.N) : (ms0_4 t).IsWhole := hstage0_4 ((cfg0.slots t 4).cast nbuf0_4)
/-- The current staging buffer of window 5 at point `t`. -/
abbrev ms0_5 (t : Fin cfg0.N) : Memref sig .tc .vmem S1408x128 .f32 := win0_5.stage (cfg0.slots t 5)
/-- It is a whole buffer. -/
abbrev hs0_5 (t : Fin cfg0.N) : (ms0_5 t).IsWhole := hstage0_5 ((cfg0.slots t 5).cast nbuf0_5)
/-- The current staging buffer of window 6 at point `t`. -/
abbrev ms0_6 (t : Fin cfg0.N) : Memref sig .tc .vmem S1x1x256 .f32 := win0_6.stage (cfg0.slots t 6)
/-- It is a whole buffer. -/
abbrev hs0_6 (t : Fin cfg0.N) : (ms0_6 t).IsWhole := hstage0_6 ((cfg0.slots t 6).cast nbuf0_6)
/-- Scratch buffer 0. -/
abbrev scM0_0 : Memref sig .tc .vmem S1408x256 .f32 := Memref.whole cc0_scratch0
/-- Scratch buffer 1. -/
abbrev scM0_1 : Memref sig .tc .vmem S1408x128 .f32 := Memref.whole cc0_scratch1
/-- Scratch buffer 2. -/
abbrev scM0_2 : Memref sig .tc .vmem S128x1408 .f32 := Memref.whole cc0_scratch2
/-- Scratch buffer 3. -/
abbrev scM0_3 : Memref sig .tc .vmem S256x256 .bf16 := Memref.whole cc0_scratch3
/-- Scratch buffer 4. -/
abbrev scM0_4 : Memref sig .tc .vmem S256x256 .fp8e4m3 := Memref.whole cc0_scratch4
/-- Scratch buffer 5. -/
abbrev scM0_5 : Memref sig .tc .vmem S8x256 .bf16 := Memref.whole cc0_scratch5

/-- What the region starts with beside the windows: the six scratch buffers and the generator register, at anything. -/
theorem PhiA0_eq (c : Dev nD) :
    (Pipeline.ΦA spec0 c : sProp (MT nD τ sig Unit (Elt F) ℕ (UR sig nD τ) ℕ)) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The grid has one axis, and a point's coordinate on it is the point's number. -/
theorem coords_val (t : Fin cfg0.N) : ((grid0.coords t) 0).val = t.val := by
  have ht : t.val < 256 := Nat.lt_of_lt_of_eq t.isLt N_0
  have e0 : (grid0.coords t 0).val = t.val / 1 % 256 := Pipeline.Grid.coords_val t 0 (by decide) rfl
  omega

/-- The first point. -/
abbrev t00 : Fin cfg0.N := ⟨0, by rw [show cfg0.N = 256 from N_0]; decide⟩
theorem cond_t00 : cond0_0 (grid0.coords t00) := (cond0_0_iff _).mpr (coords_val t00)

/-! ## What a point leaves -/

/-- The initialisation at the first point. -/
abbrev initAt (c : Dev nD) := initRun (F := F) c (grid0.coords t00) (ms0_0 t00) (hs0_0 t00) (ms0_1 t00) (hs0_1 t00) (ms0_2 t00) (hs0_2 t00) (ms0_3 t00) (hs0_3 t00) (ms0_4 t00) (hs0_4 t00) (ms0_5 t00) (hs0_5 t00) (ms0_6 t00) (hs0_6 t00) scM0_0 (Memref.isWhole_whole _) scM0_1 (Memref.isWhole_whole _) scM0_2 (Memref.isWhole_whole _) scM0_3 (Memref.isWhole_whole _) scM0_4 (Memref.isWhole_whole _) scM0_5 (Memref.isWhole_whole _) cond_t00 (iblk m c 1 t00)
/-- The contents of scratch 1 from the first point on: what the initialisation writes there. -/
def tab1 (c : Dev nD) : Vec F S1408x128 .f32 := View.canon (Val := Elt F) (initAt m c).1
theorem tab1_cover (c : Dev nD) (y : (S1408x128).Idx) : ∃ pc ∈ (initAt m c).1, y ∈ pc.1.set :=
  View.cover_of_tiledL (initAt m c).1 S128x128.size (by sl_kernel_rfl) y
/-- The contents of scratch 3 from the first point on: what the initialisation writes there. -/
def tab3 (c : Dev nD) : Vec F S256x256 .bf16 := View.canon (Val := Elt F) (initAt m c).2.1
theorem tab3_cover (c : Dev nD) (y : (S256x256).Idx) : ∃ pc ∈ (initAt m c).2.1, y ∈ pc.1.set :=
  View.cover_of_tiledL (initAt m c).2.1 S256x256.size (by sl_kernel_rfl) y
/-- The contents of scratch 4 from the first point on: what the initialisation writes there. -/
def tab4 (c : Dev nD) : Vec F S256x256 .fp8e4m3 := View.canon (Val := Elt F) (initAt m c).2.2.1
theorem tab4_cover (c : Dev nD) (y : (S256x256).Idx) : ∃ pc ∈ (initAt m c).2.2.1, y ∈ pc.1.set :=
  View.cover_of_tiledL (initAt m c).2.2.1 S256x256.size (by sl_kernel_rfl) y
/-- The contents of scratch 5 from the first point on: what the initialisation writes there. -/
def tab5 (c : Dev nD) : Vec F S8x256 .bf16 := View.canon (Val := Elt F) (initAt m c).2.2.2.1
theorem tab5_cover (c : Dev nD) (y : (S8x256).Idx) : ∃ pc ∈ (initAt m c).2.2.2.1, y ∈ pc.1.set :=
  View.cover_of_tiledL (initAt m c).2.2.2.1 S8x256.size (by sl_kernel_rfl) y

/-- The arithmetic of point `t`, the column-scale scratch at `d`. -/
abbrev midAt (c : Dev nD) (t : Fin cfg0.N) (d : Vec F S128x1408 .f32) :=
  midRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (tab1 m c) d (tab3 m c) (tab4 m c) (tab5 m c)
/-- Any contents. -/
def anyV : Vec F S128x1408 .f32 := View.canon (Val := Elt F) []
/-- What point `t` leaves in output window 2. -/
def out2 (c : Dev nD) (t : Fin cfg0.N) : Vec F S256x1408 .fp8e4m3 := View.canon (Val := Elt F) (midAt m c t anyV).1
theorem out2_cover (c : Dev nD) (t : Fin cfg0.N) (d : Vec F S128x1408 .f32) (y : (S256x1408).Idx) : ∃ pc ∈ (midAt m c t d).1, y ∈ pc.1.set :=
  View.cover_of_tiledBy (midAt m c t d).1 ![256, 128] (by sl_kernel_rfl) y
theorem out2_indep (c : Dev nD) (t : Fin cfg0.N) (d : Vec F S128x1408 .f32) : (midAt m c t d).1 = (midAt m c t anyV).1 := by dsimp only [midAt, midRun]
/-- What point `t` leaves in output window 3. -/
def out3 (c : Dev nD) (t : Fin cfg0.N) : Vec F S44x256 .f32 := View.canon (Val := Elt F) (midAt m c t anyV).2.1
theorem out3_cover (c : Dev nD) (t : Fin cfg0.N) (d : Vec F S128x1408 .f32) (y : (S44x256).Idx) : ∃ pc ∈ (midAt m c t d).2.1, y ∈ pc.1.set :=
  View.cover_of_tiledBy (midAt m c t d).2.1 ![4, 256] (by sl_kernel_rfl) y
theorem out3_indep (c : Dev nD) (t : Fin cfg0.N) (d : Vec F S128x1408 .f32) : (midAt m c t d).2.1 = (midAt m c t anyV).2.1 := by dsimp only [midAt, midRun]
/-- What point `t` leaves in output window 4. -/
def out4 (c : Dev nD) (t : Fin cfg0.N) : Vec F S1408x256 .fp8e4m3 := View.canon (Val := Elt F) (midAt m c t anyV).2.2.1
theorem out4_cover (c : Dev nD) (t : Fin cfg0.N) (d : Vec F S128x1408 .f32) (y : (S1408x256).Idx) : ∃ pc ∈ (midAt m c t d).2.2.1, y ∈ pc.1.set :=
  View.cover_of_tiledBy (midAt m c t d).2.2.1 ![128, 256] (by sl_kernel_rfl) y
theorem out4_indep (c : Dev nD) (t : Fin cfg0.N) (d : Vec F S128x1408 .f32) : (midAt m c t d).2.2.1 = (midAt m c t anyV).2.2.1 := by dsimp only [midAt, midRun]
/-- What point `t` leaves in output window 6. -/
def out6 (c : Dev nD) (t : Fin cfg0.N) : Vec F S1x1x256 .f32 := View.canon (Val := Elt F) (midAt m c t anyV).2.2.2.1
theorem out6_cover (c : Dev nD) (t : Fin cfg0.N) (d : Vec F S128x1408 .f32) (y : (S1x1x256).Idx) : ∃ pc ∈ (midAt m c t d).2.2.2.1, y ∈ pc.1.set :=
  View.cover_of_tiledL (midAt m c t d).2.2.2.1 S1x1x256.size (by sl_kernel_rfl) y
theorem out6_indep (c : Dev nD) (t : Fin cfg0.N) (d : Vec F S128x1408 .f32) : (midAt m c t d).2.2.2.1 = (midAt m c t anyV).2.2.2.1 := by dsimp only [midAt, midRun]
/-- The column scales of point `t`, in the eight rows of the scratch that are that point's. -/
def col (c : Dev nD) (t : Fin cfg0.N) : Vec F S128x1408 .f32 := View.canon (Val := Elt F) (midAt m c t anyV).2.2.2.2.1
theorem col_indep (c : Dev nD) (t : Fin cfg0.N) (d : Vec F S128x1408 .f32) : (midAt m c t d).2.2.2.2.1 = (midAt m c t anyV).2.2.2.2.1 := by dsimp only [midAt, midRun]
/-- The pieces of the column-scale scratch cover a point's eight rows and nothing else. -/
theorem col_mem_gen (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole)
    (x0 : Vec F S256x1408 .bf16) (xs9 : Vec F S1408x128 .f32) (xs10 : Vec F S128x1408 .f32) (xs11 : Vec F S256x256 .bf16) (xs12 : Vec F S256x256 .fp8e4m3) (xs13 : Vec F S8x256 .bf16) (y : S128x1408.Idx) :
    (∃ pc ∈ (midRun c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.2.2.1, y ∈ pc.1.set) ↔ 8 * ((i 0).val % 16) ≤ (y 0).val ∧ (y 0).val < 8 * ((i 0).val % 16) + 8 := by
  have hy : (y 1).val < 1408 := (y 1).isLt
  dsimp only [midRun]
  simp only [List.mem_cons, List.not_mem_nil, or_false, exists_eq_or_imp, exists_eq_left, Rect.mem_set_unit, off1_eq, off2_eq, off3_eq, off4_eq, off5_eq, off6_eq]
  simp [Fin.forall_fin_two]
  omega
/-- The pieces of the column-scale scratch cover those eight rows and nothing else. -/
theorem col_mem (c : Dev nD) (t : Fin cfg0.N) (d : Vec F S128x1408 .f32) (y : S128x1408.Idx) :
    (∃ pc ∈ (midAt m c t d).2.2.2.2.1, y ∈ pc.1.set) ↔ 8 * (t.val % 16) ≤ (y 0).val ∧ (y 0).val < 8 * (t.val % 16) + 8 := by
  rw [col_mem_gen, coords_val]
/-- The column-scale scratch as the sixteen points of `t`'s run leave it. -/
def cst (c : Dev nD) (n : ℕ) : Vec F S128x1408 .f32 := fun y =>
  if h : n / 16 * 16 + (y 0).val / 8 < cfg0.N then col m c ⟨n / 16 * 16 + (y 0).val / 8, h⟩ y else anyV y
/-- What point `t` leaves in output window 5, at the points that write it. -/
def out5 (c : Dev nD) (t : Fin cfg0.N) : Vec F S1408x128 .f32 :=
  if h : k0_cond2 (grid0.coords t) = 1#1 then View.canon (Val := Elt F) (tailRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) h (cst m c t.val)).1
  else View.canon (Val := Elt F) []
theorem out5_cover (c : Dev nD) (t : Fin cfg0.N) (h) (d : Vec F S128x1408 .f32) (y : S1408x128.Idx) :
    ∃ pc ∈ (tailRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) h d).1, y ∈ pc.1.set :=
  View.cover_of_tiledL (tailRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) h d).1 S128x128.size (by sl_kernel_rfl) y

end Cert.KernelIdeal.Gen

end
-- ==== Proof.W.Data.lean ====
module

public import proofs.«01_k».proof.Proof.W.Outs
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

attribute [local irreducible] midRun initRun tailRun

/-- The invariant before point `n`: at the start, anything; later, the four tables as the first point wrote them, the
    column-scale scratch with the rows of the run so far, the row-major scratch and the generator register at anything. -/
def PhiS (c : Dev nD) : (n : ℕ) → n ≤ cfg0.N → sProp (MT nD τ sig Unit (Elt F) ℕ (UR sig nD τ) ℕ)
  | 0, _ => Pipeline.ΦA spec0 c
  | n + 1, _ => iprop(iprop((∃ d, owns (c : Thread nD τ) scM0_0 fullShare d) ∗ owns (c : Thread nD τ) scM0_1 fullShare (tab1 m c) ∗ (∃ d, ⌜∀ y : S128x1408.Idx, (y 0).val < 8 * (n % 16 + 1) → d y = cst m c n y⌝ ∗ owns (c : Thread nD τ) scM0_2 fullShare d) ∗ owns (c : Thread nD τ) scM0_3 fullShare (tab3 m c) ∗ owns (c : Thread nD τ) scM0_4 fullShare (tab4 m c) ∗ owns (c : Thread nD τ) scM0_5 fullShare (tab5 m c)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (tab1 m c) ∗ (∃ d, ⌜∀ y : S128x1408.Idx, (y 0).val < 8 * (n % 16 + 1) → d y = cst m c n y⌝ ∗ owns (c : Thread nD τ) scM0_2 fullShare d) ∗ owns (c : Thread nD τ) scM0_3 fullShare (tab3 m c) ∗ owns (c : Thread nD τ) scM0_4 fullShare (tab4 m c) ∗ owns (c : Thread nD τ) scM0_5 fullShare (tab5 m c)) ∗ (∃ r, prngReg c r)) := rfl
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (tab1 m c) ∗ (∃ d, ⌜∀ y : S128x1408.Idx, (y 0).val < 8 * ((n - 1) % 16 + 1) → d y = cst m c (n - 1) y⌝ ∗ owns (c : Thread nD τ) scM0_2 fullShare d) ∗ owns (c : Thread nD τ) scM0_3 fullShare (tab3 m c) ∗ owns (c : Thread nD τ) scM0_4 fullShare (tab4 m c) ∗ owns (c : Thread nD τ) scM0_5 fullShare (tab5 m c)) ∗ (∃ r, prngReg c r)) := by
  cases n with
  | zero => exact absurd rfl hz
  | succ n => rfl

/-- The proof data of the region: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 m c t
    | ⟨3, _⟩ => out3 m c t
    | ⟨4, _⟩ => out4 m c t
    | ⟨5, _⟩ => out5 m c t
    | ⟨6, _⟩ => out6 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 m c t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A run's column scales, point by point. -/
theorem cst_eq_col (c : Dev nD) (t : Fin cfg0.N) (y : S128x1408.Idx) (h : (y 0).val / 8 = t.val % 16) : cst m c t.val y = col m c t y := by
  have e : t.val / 16 * 16 + (y 0).val / 8 = t.val := by omega
  unfold cst
  rw [dif_pos (by rw [e]; exact t.isLt)]
  congr 1
  exact Fin.ext e
theorem cst_run (c : Dev nD) {n n' : ℕ} (h : n / 16 = n' / 16) : cst m c n = cst m c n' := by
  unfold cst; rw [h]

/-- The scratch after point `t`, from the scratch before it. -/
theorem cst_step (c : Dev nD) (t : Fin cfg0.N) (d : Vec F S128x1408 .f32)
    (hd : ∀ y : S128x1408.Idx, (y 0).val < 8 * (t.val % 16) → d y = cst m c t.val y) (y : S128x1408.Idx) (hy : (y 0).val < 8 * (t.val % 16 + 1)) :
    scM0_2.view.read (Elt F) (scM0_2.view.writes (Elt F) ((Memref.isWhole_whole cc0_scratch2 : scM0_2.IsWhole).unread d) (midAt m c t d).2.2.2.2.1) y = cst m c t.val y := by
  by_cases h : 8 * (t.val % 16) ≤ (y 0).val
  · refine (View.read_writes_apply_eq_canon _ _ _ _ ((col_mem m c t d y).mpr ⟨h, by omega⟩)).trans ?_
    refine (congrFun (congrArg (View.canon (Val := Elt F)) (col_indep m c t d)) y).trans ?_
    exact (cst_eq_col m c t y (by omega)).symm
  · refine (View.read_writes_apply_of_forall_not_mem _ _ _ _ (fun p hp hm => h ((col_mem m c t d y).mp ⟨p, hp, hm⟩).1)).trans ?_
    refine (congrFun (Memref.IsWhole.read_unread _ _) y).trans ?_
    exact hd y (by omega)

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))

def bodyPost (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ (match cfg0.idle 5 (cfg0.grid.coords t) with
      | true => match (cfg0.win 5).flush t with
        | false => iprop(∃ d, owns (c : Thread nD τ) (ms0_5 t) fullShare ((dats m 0 c).before 5 t d))
        | true => owns (c : Thread nD τ) (ms0_5 t) fullShare ((dats m 0 c).after 5 t)
      | false => owns (c : Thread nD τ) (ms0_5 t) fullShare ((dats m 0 c).after 5 t)) ∗ owns (c : Thread nD τ) (ms0_6 t) fullShare ((dats m 0 c).after 6 t))

/-- What the stretch after the initialisation starts from. -/
def restPre (c : Dev nD) (t : Fin cfg0.N) (d : Vec F S128x1408 .f32) : sProp (MT nD τ sig Unit (Elt F) ℕ (UR sig nD τ) ℕ) :=
  iprop((∃ d, owns (c : Thread nD τ) scM0_0 fullShare d) ∗ owns (c : Thread nD τ) scM0_1 fullShare (tab1 m c) ∗ owns (c : Thread nD τ) scM0_2 fullShare d ∗ owns (c : Thread nD τ) scM0_3 fullShare (tab3 m c) ∗ owns (c : Thread nD τ) scM0_4 fullShare (tab4 m c) ∗ owns (c : Thread nD τ) scM0_5 fullShare (tab5 m c) ∗ (∃ r, prngReg c r)
    ∗ (dats m 0 c).owesAt () t.castSucc ∗ owns (c : Thread nD τ) (ms0_0 t) fullShare (iblk m c 0 t) ∗ owns (c : Thread nD τ) (ms0_1 t) fullShare (iblk m c 1 t) ∗ (∃ d, owns (c : Thread nD τ) (ms0_5 t) fullShare ((dats m 0 c).before 5 t d)) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_6 t) fullShare d))

set_option maxHeartbeats 4000000 in
/-- The stretch after the initialisation, at any point. -/
theorem sound_rest (c : Dev nD) (t : Fin cfg0.N) (d : Vec F S128x1408 .f32)
    (hd : ∀ y : S128x1408.Idx, (y 0).val < 8 * (t.val % 16) → d y = cst m c t.val y) :
    restPre m c t d ⊢ wp frame (wpE (defs₀ (F := F)) Variants.none c none) Set.univ
      (midProg (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (mb2.tail (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _))) (fun _ => bodyPost m c t) := by
  unfold restPre
  iintro ⟨HS0, HS1, HS2, HS3, HS4, HS5, Hg, Ho, H0, H1, H5, H2, H3, H4, H6⟩
  iapply ((midAt m c t d).2.2.2.2.2 _ _ Set.univ _)
  isplitl [H0]; · iexact H0
  isplitl [H2]; · iexact H2
  isplitl [H3]; · iexact H3
  isplitl [H4]; · iexact H4
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, ⟨%e2, H2⟩, ⟨%e3, H3⟩, ⟨%e4, H4⟩, ⟨%e6, H6⟩, HS0, HS1, HS2, HS3, HS4, HS5⟩
  unfold bodyPost
  rw [show (dats m 0 c).owesAt () t.succ = (dats m 0 c).owesAt () t.castSucc from rfl,
    after0_0, after0_1, after0_2, after0_3, after0_4, after0_5, after0_6,
    show (dats m 0 c).Φ t.succ = PhiS m c (t.val + 1) t.isLt from rfl, PhiS_succ]
  by_cases hc : k0_cond2 (grid0.coords t) = 1#1
  · have hi : cfg0.idle 5 (cfg0.grid.coords t) = false := by
      show (!(k0_cond2 (grid0.coords t) == 1#1)) = false
      rw [hc]; rfl
    have h15 : t.val % 16 = 15 := by rw [← coords_val t]; exact (cond2_iff _).mp hc
    have hall : scM0_2.view.read (Elt F) (scM0_2.view.writes (Elt F) ((Memref.isWhole_whole cc0_scratch2 : scM0_2.IsWhole).unread d) (midAt m c t d).2.2.2.2.1) = cst m c t.val :=
      funext fun y => cst_step m c t d hd y (by have : (y 0).val < 128 := (y 0).isLt; omega)
    rw [hi]
    dsimp only
    iapply ((tailRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc (cst m c t.val)).2 Set.univ _)
    isplitl [H5]
    · icases H5 with ⟨%d5, H5⟩
      iexists _; iexact H5
    isplitl [HS2]
    · unfold owns; iexists _; isplitr
      swap; · iexact HS2
      ipureintro; exact hall
    iintro ⟨⟨%e5, H5⟩, HS2⟩
    isplitl [HS0 HS1 HS2 HS3 HS4 HS5 Hg]
    · isplitl [HS0 HS1 HS2 HS3 HS4 HS5]
      · isplitl [HS0]; · iexact HS0
        isplitl [HS1]; · iexact HS1
        isplitl [HS2]
        · iexists _; isplitr
          swap; · iexact HS2
          ipureintro; exact fun y _ => rfl
        isplitl [HS3]; · iexact HS3
        isplitl [HS4]; · iexact HS4
        iexact HS5
      iexact Hg
    isplitl [Ho]; · iexact Ho
    isplitl [H0]; · iexact H0
    isplitl [H1]; · iexact H1
    isplitl [H2]
    · unfold owns; iexists _; isplitr
      swap; · iexact H2
      ipureintro
      exact (View.read_writes_eq_canon _ _ _ (out2_cover m c t d)).trans (congrArg (View.canon (Val := Elt F)) (out2_indep m c t d))
    isplitl [H3]
    · unfold owns; iexists _; isplitr
      swap; · iexact H3
      ipureintro
      exact (View.read_writes_eq_canon _ _ _ (out3_cover m c t d)).trans (congrArg (View.canon (Val := Elt F)) (out3_indep m c t d))
    isplitl [H4]
    · unfold owns; iexists _; isplitr
      swap; · iexact H4
      ipureintro
      exact (View.read_writes_eq_canon _ _ _ (out4_cover m c t d)).trans (congrArg (View.canon (Val := Elt F)) (out4_indep m c t d))
    isplitl [H5]
    · unfold owns; iexists _; isplitr
      swap; · iexact H5
      ipureintro
      exact (View.read_writes_eq_canon _ _ _ (out5_cover c t hc (cst m c t.val))).trans (by unfold out5; rw [dif_pos hc])
    · unfold owns; iexists _; isplitr
      swap; · iexact H6
      ipureintro
      exact (View.read_writes_eq_canon _ _ _ (out6_cover m c t d)).trans (congrArg (View.canon (Val := Elt F)) (out6_indep m c t d))
  · have hi : cfg0.idle 5 (cfg0.grid.coords t) = true := by
      show (!(k0_cond2 (grid0.coords t) == 1#1)) = true
      rw [Bool.not_eq_true', beq_eq_false_iff_ne]; exact hc
    have hf : (cfg0.win 5).flush t = false := by
      rw [Bool.eq_false_iff]
      exact fun h => hc ((cond2_iff _).mpr (by rw [coords_val t]; exact (flush0_5 t).mp h))
    rw [hi, hf]
    dsimp only
    unfold mb2.tail
    rw [dif_neg hc]
    sl_step
    isplitl [HS0 HS1 HS2 HS3 HS4 HS5 Hg]
    · isplitl [HS0 HS1 HS2 HS3 HS4 HS5]
      · isplitl [HS0]; · iexact HS0
        isplitl [HS1]; · iexact HS1
        isplitl [HS2]
        · iexists _; isplitr
          swap
          · unfold owns; iexists _; isplitr
            swap; · iexact HS2
            ipureintro; rfl
          ipureintro; exact cst_step m c t d hd
        isplitl [HS3]; · iexact HS3
        isplitl [HS4]; · iexact HS4
        iexact HS5
      iexact Hg
    isplitl [Ho]; · iexact Ho
    isplitl [H0]; · iexact H0
    isplitl [H1]; · iexact H1
    isplitl [H2]
    · unfold owns; iexists _; isplitr
      swap; · iexact H2
      ipureintro
      exact (View.read_writes_eq_canon _ _ _ (out2_cover m c t d)).trans (congrArg (View.canon (Val := Elt F)) (out2_indep m c t d))
    isplitl [H3]
    · unfold owns; iexists _; isplitr
      swap; · iexact H3
      ipureintro
      exact (View.read_writes_eq_canon _ _ _ (out3_cover m c t d)).trans (congrArg (View.canon (Val := Elt F)) (out3_indep m c t d))
    isplitl [H4]
    · unfold owns; iexists _; isplitr
      swap; · iexact H4
      ipureintro
      exact (View.read_writes_eq_canon _ _ _ (out4_cover m c t d)).trans (congrArg (View.canon (Val := Elt F)) (out4_indep m c t d))
    isplitl [H5]; · iexact H5
    · unfold owns; iexists _; isplitr
      swap; · iexact H6
      ipureintro
      exact (View.read_writes_eq_canon _ _ _ (out6_cover m c t d)).trans (congrArg (View.canon (Val := Elt F)) (out6_indep m c t d))

set_option maxHeartbeats 4000000 in
/-- The body at any point: the first initialises, the later ones find the tables as the first left them. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  rw [cc0_rmsnorm_quant_eq_skeleton, skel_eq]
  simp only [before0_0, before0_1]
  by_cases hz : t.val = 0
  · obtain rfl : t = t00 := Fin.ext hz
    rw [PhiS_castSucc, PhiS_zero m c _ _ rfl, PhiA0_eq]
    iintro ⟨⟨⟨HS0, HS1, ⟨%ds, HS2⟩, HS3, HS4, HS5⟩, Hg⟩, Ho, ⟨%d0, H0⟩, ⟨%d1, H1⟩, ⟨%d2, H2⟩, ⟨%d3, H3⟩, ⟨%d4, H4⟩, H5, ⟨%d6, H6⟩⟩
    iapply ((initAt m c).2.2.2.2 _ _ Set.univ _)
    isplitl [H1]; · iexact H1
    isplitl [HS1]; · iexact HS1
    isplitl [HS3]; · iexact HS3
    isplitl [HS4]; · iexact HS4
    isplitl [HS5]; · iexact HS5
    iintro ⟨H1, ⟨%e1, HS1⟩, ⟨%e3, HS3⟩, ⟨%e4, HS4⟩, ⟨%e5, HS5⟩⟩
    iapply (sound_rest m c t00 ds (fun y hy => absurd hy (by simp)))
    unfold restPre
    isplitl [HS0]; · iexact HS0
    isplitl [HS1]
    · unfold owns; iexists _; isplitr
      swap; · iexact HS1
      ipureintro; exact View.read_writes_eq_canon _ _ _ (tab1_cover m c)
    isplitl [HS2]; · iexact HS2
    isplitl [HS3]
    · unfold owns; iexists _; isplitr
      swap; · iexact HS3
      ipureintro; exact View.read_writes_eq_canon _ _ _ (tab3_cover m c)
    isplitl [HS4]
    · unfold owns; iexists _; isplitr
      swap; · iexact HS4
      ipureintro; exact View.read_writes_eq_canon _ _ _ (tab4_cover m c)
    isplitl [HS5]
    · unfold owns; iexists _; isplitr
      swap; · iexact HS5
      ipureintro; exact View.read_writes_eq_canon _ _ _ (tab5_cover m c)
    isplitl [Hg]; · iexact Hg
    isplitl [Ho]; · iexact Ho
    isplitl [H0]; · iexact H0
    isplitl [H1]; · iexact H1
    isplitl [H5]; · iexact H5
    isplitl [H2]; · iexists _; iexact H2
    isplitl [H3]; · iexists _; iexact H3
    isplitl [H4]; · iexists _; iexact H4
    iexists _; iexact H6
  · have hn : ¬ cond0_0 (grid0.coords t) := fun h => hz (by rw [← coords_val t]; exact (cond0_0_iff _).mp h)
    unfold pb1
    rw [dif_neg hn, PhiS_castSucc, PhiS_pos m c _ _ hz]
    iintro ⟨⟨⟨HS0, HS1, ⟨%ds, %hds, HS2⟩, HS3, HS4, HS5⟩, Hg⟩, Ho, ⟨%d0, H0⟩, ⟨%d1, H1⟩, ⟨%d2, H2⟩, ⟨%d3, H3⟩, ⟨%d4, H4⟩, H5, ⟨%d6, H6⟩⟩
    iapply (sound_rest m c t ds (fun y hy => (hds y (by omega)).trans (congrFun (cst_run m c (by omega)) y)))
    unfold restPre
    isplitl [HS0]; · iexact HS0
    isplitl [HS1]; · iexact HS1
    isplitl [HS2]; · iexact HS2
    isplitl [HS3]; · iexact HS3
    isplitl [HS4]; · iexact HS4
    isplitl [HS5]; · iexact HS5
    isplitl [Hg]; · iexact Hg
    isplitl [Ho]; · iexact Ho
    isplitl [H0]; · iexact H0
    isplitl [H1]; · iexact H1
    isplitl [H5]; · iexact H5
    isplitl [H2]; · iexists _; iexact H2
    isplitl [H3]; · iexists _; iexact H3
    isplitl [H4]; · iexists _; iexact H4
    iexists _; iexact H6

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, ⟨%ds, %hds, HS2⟩, HS3, HS4, HS5⟩, Hg⟩
  isplitl [HS0 HS1 HS2 HS3 HS4 HS5]
  · isplitl [HS0]
    · iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
set_option maxHeartbeats 800000 in
/-- The whole run: every array ends at what the proof data say, and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the run ends, the arguments are unchanged, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.W.Frames.lean ====
module

public import proofs.«01_k».proof.Defs
public import proofs.«01_k».proof.Proof.Gen.Kernel
public import proofs.«01_k».proof.Proof.Gen.KernelIdeal
public import proofs.«01_k».proof.Proof.W.Data
public import Idealize.ShloMosaic.Lib.Tactic

@[expose] public section

noncomputable section

namespace Cert.Kernel.Gen
open Idealize.ShloMosaic Idealize.ShloMosaic.TcCoe Idealize.SL Idealize.SL.Sem Idealize.ShloMosaic.Tactic

/-- Named constants read at the words of the machine: each is its own bits. -/
local instance nb : Named Bits := ⟨fun κ name φ bits => FloatOps.ofBits φ bits⟩

/-- The frame of the idealized program, read at the words of the machine. -/
def IdealAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- With its named constant read as the bits it stands for, the idealized program is the kernel: the two frames say the same. -/
theorem frame_same : Cert.quiescent_Kernel (hKernel := Cert.Kernel.Gen.facts) = IdealAtBits := by sl_kernel_rfl

/-- The kernel runs to the end without fault, leaves its arguments unchanged and every counter at zero. -/
theorem frame : Cert.quiescent_Kernel (hKernel := Cert.Kernel.Gen.facts) := by
  rw [frame_same]
  exact fun m g _ => Cert.KernelIdeal.Gen.frame (F := Bits) m g

end Cert.Kernel.Gen

end
-- ==== Proof.W.RefFrame.lean ====
module

public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Value
open Idealize.ShloMosaic Idealize.ShloMosaic.TcCoe Idealize.SL.Sem

variable {F : FTy → Type} [FloatOps F]
variable (m : (ℓ : Loc nD τ sig) → Buf (Elt F) ℓ) (ρ : Dev nD → PrngReg)

/-- The reference ends, leaves its arguments unchanged, and (it declares no semaphore) every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2.2.2, sem_eq_zero_of_no_sems (by rfl) r.2⟩) (run m ρ)

end Cert.ReferenceIdeal.Value

end
-- ==== Proof.V.Expo.lean ====
module

public import Idealize.ShloMosaic.Lib.Pointwise

@[expose] public section

noncomputable section

/-! # The power of two that a search over exponent fields finds

The kernel finds the exponent field of a nonnegative number by eight comparisons with powers of two; the reference takes the floor of
a quotient of logarithms. Over the reals both give the same power of two. -/

namespace Cert.KernelIdeal.Expo

open Idealize.ShloMosaic

/-- The float whose exponent field is `b` and whose other bits are zero. -/
def pw (b : BitVec 32) : EReal := Ideal.ofBits .f32 (IntOp.shli .vector b 23#32)

/-- One round of the search. -/
def step (q : EReal) (t b : BitVec 32) : BitVec 32 := if q < pw (b + t) then b else b + t

/-- The exponent field that the search finds. -/
def expo (q : EReal) : BitVec 32 :=
  step q 1#32 (step q 2#32 (step q 4#32 (step q 8#32 (step q 16#32 (step q 32#32 (step q 64#32 (step q 128#32 0#32)))))))

/-- The exponent field of the scale. -/
def field (q : EReal) : BitVec 32 := if expo q = 0#32 then 127#32 else expo q + 1#32

/-- The kernel's scale. -/
def scale (q : EReal) : EReal := pw (field q)
/-- The kernel's inverse scale. -/
def inv (q : EReal) : EReal := pw (254#32 - field q)

/-- The reference's exponent. -/
def refE (q : EReal) : EReal :=
  if q < Ideal.ofBits .f32 0x00800000#32 then Ideal.ofBits .f32 0x00000000#32
  else Ideal.liftRound Int.floor (Ideal.div (Ideal.log q) (Ideal.log (Ideal.ofBits .f32 0x40000000#32))) + Ideal.ofBits .f32 0x3F800000#32

theorem field_sign : ∀ n : Fin 256, (IntOp.shli .vector (BitVec.ofNat 32 n.val) 23#32).extractLsb' 31 1 = 0#1 := by decide +kernel
theorem field_exp : ∀ n : Fin 256, ((IntOp.shli .vector (BitVec.ofNat 32 n.val) 23#32).extractLsb' 23 8).toNat = n.val := by decide +kernel
theorem field_frac : ∀ n : Fin 256, ((IntOp.shli .vector (BitVec.ofNat 32 n.val) 23#32).extractLsb' 0 23).toNat = 0 := by decide +kernel

/-- A word with a clear sign and fraction, read as a float. -/
theorem read_word (w : BitVec 32) (n : ℕ) (hs : w.extractLsb' 31 1 = 0#1) (he : (w.extractLsb' 23 8).toNat = n) (hf : (w.extractLsb' 0 23).toNat = 0) :
    Ideal.ofBits .f32 w = if n = 255 then ⊤ else if n = 0 then 0 else (((2 : ℝ) ^ ((n : ℤ) - 127) : ℝ) : EReal) := by
  simp only [Ideal.ofBits, Ideal.ieee, Nat.reduceAdd, hs, he, hf]
  by_cases h1 : n = 255
  · subst h1; simp
  · by_cases h2 : n = 0
    · subst h2; simp
    · rw [if_neg (by omega), if_neg h2, if_neg h1, if_neg h2]
      congr 1
      simp
      rw [show ((8388608 : ℝ)) = (2 : ℝ) ^ (23 : ℤ) by norm_num, ← zpow_add₀ (by norm_num)]
      congr 1
      ring

theorem pw_word (n : ℕ) (h : n < 256) : pw (BitVec.ofNat 32 n) = if n = 255 then ⊤ else if n = 0 then 0 else (((2 : ℝ) ^ ((n : ℤ) - 127) : ℝ) : EReal) :=
  read_word _ n (field_sign ⟨n, h⟩) (field_exp ⟨n, h⟩) (field_frac ⟨n, h⟩)

/-- The float of exponent field `n` is the power of two. -/
theorem pw_nat (n : ℕ) (h1 : 1 ≤ n) (h2 : n ≤ 254) : pw (BitVec.ofNat 32 n) = (((2 : ℝ) ^ ((n : ℤ) - 127) : ℝ) : EReal) := by
  rw [pw_word n (by omega), if_neg (by omega), if_neg (by omega)]

theorem two_eq : Ideal.ofBits .f32 0x40000000#32 = ((2 : ℝ) : EReal) := by
  have := pw_nat 128 (by norm_num) (by norm_num)
  norm_num at this
  exact this

theorem one_eq : Ideal.ofBits .f32 0x3F800000#32 = ((1 : ℝ) : EReal) := by
  have := pw_nat 127 (by norm_num) (by norm_num)
  norm_num at this
  exact this

theorem zero_eq : Ideal.ofBits .f32 0x00000000#32 = ((0 : ℝ) : EReal) := by simp [Ideal.ofBits, Ideal.ieee]

theorem tiny_eq : Ideal.ofBits .f32 0x00800000#32 = pw (BitVec.ofNat 32 1) := rfl

/-- What the search knows after the rounds down to width `w`. -/
def Inv (q : EReal) (w : ℕ) (b : BitVec 32) : Prop :=
  ∃ n : ℕ, b = BitVec.ofNat 32 n ∧ n + w ≤ 256 ∧ (n = 0 ∨ pw (BitVec.ofNat 32 n) ≤ q) ∧ (n + w = 256 ∨ q < pw (BitVec.ofNat 32 (n + w)))

theorem step_inv (q : EReal) (t : ℕ) (b : BitVec 32) (h : Inv q (2 * t) b) : Inv q t (step q (BitVec.ofNat 32 t) b) := by
  obtain ⟨n, rfl, hn, hlo, hhi⟩ := h
  unfold step
  rw [← BitVec.ofNat_add]
  by_cases hq : q < pw (BitVec.ofNat 32 (n + t))
  · rw [if_pos hq]; exact ⟨n, rfl, by omega, hlo, .inr hq⟩
  · rw [if_neg hq]
    refine ⟨n + t, rfl, by omega, .inr (not_lt.mp hq), ?_⟩
    rw [show n + t + t = n + 2 * t by omega]; exact hhi

theorem expo_inv (q : EReal) : Inv q 1 (expo q) :=
  step_inv q 1 _ <| step_inv q 2 _ <| step_inv q 4 _ <| step_inv q 8 _ <| step_inv q 16 _ <| step_inv q 32 _ <| step_inv q 64 _ <|
    step_inv q 128 _ ⟨0, rfl, by norm_num, .inl rfl, .inl rfl⟩

theorem pow_two (k : ℤ) : Ideal.pow ((2 : ℝ) : EReal) (((k : ℝ)) : EReal) = (((2 : ℝ) ^ k : ℝ) : EReal) := by
  rw [Ideal.pow_coe_coe]; congr 1; exact Real.rpow_intCast 2 k

theorem floor_log (r : ℝ) (k : ℤ) (h1 : (2 : ℝ) ^ k ≤ r) (h2 : r < (2 : ℝ) ^ (k + 1)) : ⌊Real.log r / Real.log 2⌋ = k := by
  have hr : 0 < r := lt_of_lt_of_le (by positivity) h1
  have hl : 0 < Real.log 2 := Real.log_pos (by norm_num)
  rw [Int.floor_eq_iff]
  constructor
  · rw [le_div_iff₀ hl, ← Real.log_zpow]; exact Real.log_le_log (by positivity) h1
  · rw [div_lt_iff₀ hl, show (k : ℝ) + 1 = ((k + 1 : ℤ) : ℝ) by push_cast; rfl, ← Real.log_zpow]; exact Real.log_lt_log hr h2

/-- The kernel's scale and inverse scale are the reference's, for a nonnegative number below `2 ^ 126`. -/
theorem scale_inv (r : ℝ) (h0 : 0 ≤ r) (h1 : r < (2 : ℝ) ^ (126 : ℤ)) :
    scale r = Ideal.pow (Ideal.ofBits .f32 0x40000000#32) (refE r) ∧ inv r = Ideal.pow (Ideal.ofBits .f32 0x40000000#32) (-(refE r)) := by
  obtain ⟨n, hn, hle, hlo, hhi⟩ := expo_inv (r : EReal)
  unfold scale inv field refE
  rw [hn, two_eq, one_eq, zero_eq, tiny_eq]
  by_cases hz : n = 0
  · subst hz
    have hq : (r : EReal) < pw (BitVec.ofNat 32 1) := by simpa using hhi
    rw [if_pos hq, if_pos rfl, show (254#32 - 127#32) = BitVec.ofNat 32 127 from rfl, pw_nat 127 (by norm_num) (by norm_num)]
    have := pow_two 0
    simp at this ⊢
    norm_num [this]
  · have hlo' : pw (BitVec.ofNat 32 n) ≤ (r : EReal) := hlo.resolve_left hz
    have hn255 : n ≤ 254 := by
      by_contra h
      have : n = 255 := by omega
      subst this
      have ht : pw (BitVec.ofNat 32 255) = ⊤ := (pw_word 255 (by norm_num)).trans (if_pos rfl)
      rw [ht] at hlo'
      simp at hlo'
    rw [pw_nat n (by omega) hn255, EReal.coe_le_coe_iff] at hlo'
    have hn' : n ≤ 252 := by
      by_contra h
      have : (2 : ℝ) ^ (126 : ℤ) ≤ (2 : ℝ) ^ ((n : ℤ) - 127) := zpow_le_zpow_right₀ (by norm_num) (by omega)
      linarith
    have hhi' : (r : EReal) < pw (BitVec.ofNat 32 (n + 1)) := hhi.resolve_left (by omega)
    rw [pw_nat (n + 1) (by omega) (by omega), EReal.coe_lt_coe_iff] at hhi'
    have hr : 0 < r := lt_of_lt_of_le (by positivity) hlo'
    have hne : ¬ (BitVec.ofNat 32 n = 0#32) := by
      intro h
      have := congrArg BitVec.toNat h
      simp at this
      omega
    have hq : ¬ (r : EReal) < pw (BitVec.ofNat 32 1) := by
      rw [pw_nat 1 (by norm_num) (by norm_num), EReal.coe_lt_coe_iff, not_lt]
      refine le_trans (zpow_le_zpow_right₀ (by norm_num) (by omega)) hlo'
    rw [if_neg hq, if_neg hne, Ideal.log_coe, Ideal.log_coe, if_neg (not_le.mpr hr), if_neg (by norm_num), Ideal.div,
      if_neg (by norm_num), ← EReal.coe_inv, ← EReal.coe_mul, ← div_eq_mul_inv, Ideal.liftRound_coe,
      floor_log r ((n : ℤ) - 127) hlo' (by convert hhi' using 2; push_cast; ring), ← EReal.coe_add,
      show (((n : ℤ) - 127 : ℤ) : ℝ) + 1 = (((n : ℤ) - 126 : ℤ) : ℝ) by push_cast; ring, ← EReal.coe_neg,
      show -(((n : ℤ) - 126 : ℤ) : ℝ) = ((126 - (n : ℤ) : ℤ) : ℝ) by push_cast; ring, pow_two, pow_two]
    have e1 : BitVec.ofNat 32 n + 1#32 = BitVec.ofNat 32 (n + 1) := (BitVec.ofNat_add n 1).symm
    have e2 : 254#32 - BitVec.ofNat 32 (n + 1) = BitVec.ofNat 32 (253 - n) := by
      apply BitVec.eq_of_toNat_eq
      simp only [BitVec.toNat_sub, BitVec.toNat_ofNat]
      omega
    rw [e1, e2, pw_nat _ (by omega) (by omega), pw_nat _ (by omega) (by omega)]
    constructor <;> congr 2
    · push_cast; ring
    · push_cast [Nat.cast_sub (show n ≤ 253 by omega)]; ring

end Cert.KernelIdeal.Expo

end
-- ==== Proof.V.Spec.lean ====
module

public import proofs.«01_k».proof.Proof.V.Expo

@[expose] public section

set_option maxRecDepth 16384

noncomputable section

/-! # What the kernel computes, at one element, over the extended reals

The input is a function `X` of the token and the channel, the weights a function `G` of the channel. Both are total on
the naturals, so that tokens and channels are plain numbers. -/

namespace Cert.KernelIdeal.Spec
open Idealize.ShloMosaic Finset

/-- The sum of the squares of a token's 1408 channels. -/
def ssq (X : ℕ → ℕ → EReal) (t : ℕ) : EReal := ∑ d ∈ range 1408, X t d * X t d

/-- A token's inverse root mean square. -/
def sig (X : ℕ → ℕ → EReal) (t : ℕ) : EReal :=
  Ideal.rsqrt (ssq X t * (((1 / 1408 : ℝ) : ℝ) : EReal) + Ideal.ofBits .f32 0x3727C5AC#32)

/-- The normalised value. -/
def nrm (X : ℕ → ℕ → EReal) (G : ℕ → EReal) (t d : ℕ) : EReal := X t d * sig X t * G d

/-- The greatest magnitude of 32 values, over 448. -/
def gq (f : Fin 32 → EReal) : EReal :=
  (univ : Finset (Fin 32)).fold max (Ideal.ofBits .f32 0xFF800000#32) (fun k => FloatOps.absf (F := Ideal) (φ := .f32) (f k)) * Ideal.ofBits .f32 0x3B124925#32

/-- That of a token's channel group `g`. -/
def rq (X : ℕ → ℕ → EReal) (G : ℕ → EReal) (g t : ℕ) : EReal := gq fun k => nrm X G t (g * 32 + k.val)

/-- That of a channel's token group `h`. -/
def cq (X : ℕ → ℕ → EReal) (G : ℕ → EReal) (h d : ℕ) : EReal := gq fun k => nrm X G (h * 32 + k.val) d

/-- A code: the value clipped to the range of the codes. -/
def clip (z : EReal) : EReal := min (Ideal.ofBits .f32 0x43E00000#32) (max (Ideal.ofBits .f32 0xC3E00000#32) z)

end Cert.KernelIdeal.Spec

end
-- ==== Proof.V.Tile.lean ====
module

public import proofs.«01_k».proof.Proof.Gen.KernelIdeal.Skeleton
public import proofs.«01_k».proof.Proof.V.Spec
public import Idealize.ShloMosaic.Lib.Pointwise

@[expose] public section

set_option maxRecDepth 16384

noncomputable section

namespace Cert.KernelIdeal.Tile
open Idealize.ShloMosaic Idealize.ShloMosaic.TcCoe Cert.KernelIdeal Cert.KernelIdeal.Gen

variable {F : FTy → Type} [FloatOps F] [Named F]

/-! ## The quantiser's exponent search, elementwise -/

/-- One round of the search: keep `b` when `q` is below the power of two whose exponent field is `b + t`, else take `b + t`. -/
def stepV {S : Shape} (q : FVec F S .f32) (t : BitVec 32) (b : IVec S 32) : IVec S 32 :=
  select (cmpf .olt q (bitcastToFloat .f32 (shli (addi b (broadcast S t)) (broadcast S 23#32)))) b (addi b (broadcast S t))

/-- The exponent field of `q`, by eight rounds. -/
def expoV {S : Shape} (q : FVec F S .f32) : IVec S 32 :=
  stepV q 1#32 (stepV q 2#32 (stepV q 4#32 (stepV q 8#32 (stepV q 16#32 (stepV q 32#32 (stepV q 64#32 (stepV q 128#32 (broadcast S 0#32))))))))

/-- The exponent field of the scale. -/
def fieldV {S : Shape} (q : FVec F S .f32) : IVec S 32 :=
  select (cmpi .eq (expoV q) (broadcast S 0#32)) (broadcast S 127#32) (addi (expoV q) (broadcast S 1#32))

/-- The scale. -/
def scaleV {S : Shape} (q : FVec F S .f32) : FVec F S .f32 := bitcastToFloat .f32 (shli (fieldV q) (broadcast S 23#32))

/-- The inverse of the scale. -/
def invV {S : Shape} (q : FVec F S .f32) : FVec F S .f32 :=
  bitcastToFloat .f32 (shli (subi (broadcast S 254#32) (fieldV q)) (broadcast S 23#32))

/-- Clipping to the range of the codes. -/
def clipV {S : Shape} (z : FVec F S .f32) : FVec F S .f32 :=
  minimumf (broadcast S (Scalar.ofBits .f32 0x43E00000#32)) (maximumf (broadcast S (Scalar.ofBits .f32 0xC3E00000#32)) z)

/-! ## A tile of 256 channels -/

/-- The normalised tile, channels by tokens. -/
def tileY (rs : FVec F S8x256 .f32) (g : FVec F S256x128 .f32) (y : FVec F S256x256 .f32) : FVec F S256x256 .f32 :=
  mulf (shapeCast S256x256 (mulf (shapeCast S32x8x256 y shapeCasts_S256x256_S32x8x256)
      (broadcastTo S32x8x256 (shapeCast S1x8x256 rs shapeCasts_S8x256_S1x8x256) broadcasts_S1x8x256_S32x8x256)) shapeCasts_S32x8x256_S256x256)
    (concatenate S256x256 1 [⟨S256x128, g⟩, ⟨S256x128, g⟩] concatenates_S256x128_S256x128_S256x256_d1)

/-- The greatest magnitude of each group of 32 rows, over 448. -/
def tileQ (y : FVec F S256x256 .f32) : FVec F S8x256 .f32 :=
  mulf (multiReduction .maximumf [1] S8x256 (shapeCast S8x32x256 (absf y) shapeCasts_S256x256_S8x32x256) 0xFF800000#32 reduces_S8x32x256_S8x256 (.inl rfl) rfl)
    (broadcast S8x256 (Scalar.ofBits .f32 0x3B124925#32))

/-- The same, of the transposed tile. -/
def tileQT (y : FVec F S256x256 .f32) : FVec F S8x256 .f32 := tileQ (transpose S256x256 [1, 0] y transposes_S256x256_p1_0_S256x256)

/-- The row codes, tokens by channels. -/
def tileR (y : FVec F S256x256 .f32) (e : FVec F S256x256 .fp8e4m3) : FVec F S256x256 .fp8e4m3 :=
  truncf .fp8e4m3 (matmul dot_S256x256_S256x256_S256x256_1_1_0_0_n_n none e
    (truncf .fp8e4m3 (clipV (shapeCast S256x256 (mulf (shapeCast S8x32x256 y shapeCasts_S256x256_S8x32x256)
      (broadcastTo S8x32x256 (shapeCast S8x1x256 (invV (tileQ y)) shapeCasts_S8x256_S8x1x256) broadcasts_S8x1x256_S8x32x256)) shapeCasts_S8x32x256_S256x256)) bitsLt_fp8e4m3_f32)
    (constant S256x256 .f32 0x00000000#32)) bitsLt_fp8e4m3_f32

/-- The column codes, channels by tokens. -/
def tileC (y : FVec F S256x256 .f32) (x : FVec F S8x256 .bf16) : FVec F S256x256 .fp8e4m3 :=
  truncf .fp8e4m3 (clipV (mulf y (matmul dot_S8x256_S8x256_S256x256_0_0_1_1_n_n none (truncf .bf16 (invV (tileQT y)) bitsLt_bf16_f32) x
    (constant S256x256 .f32 0x00000000#32)))) bitsLt_fp8e4m3_f32

/-! ## The last tile, of 128 channels -/

/-- The normalised tile, channels by tokens. -/
def lastY (rs : FVec F S8x256 .f32) (g : FVec F S128x128 .f32) (y : FVec F S128x256 .f32) : FVec F S128x256 .f32 :=
  mulf (shapeCast S128x256 (mulf (shapeCast S16x8x256 y shapeCasts_S128x256_S16x8x256)
      (broadcastTo S16x8x256 (shapeCast S1x8x256 rs shapeCasts_S8x256_S1x8x256) broadcasts_S1x8x256_S16x8x256)) shapeCasts_S16x8x256_S128x256)
    (concatenate S128x256 1 [⟨S128x128, g⟩, ⟨S128x128, g⟩] concatenates_S128x128_S128x128_S128x256_d1)

/-- The greatest magnitude of each group of 32 rows, over 448. -/
def lastQ (y : FVec F S128x256 .f32) : FVec F S4x256 .f32 :=
  mulf (multiReduction .maximumf [1] S4x256 (shapeCast S4x32x256 (absf y) shapeCasts_S128x256_S4x32x256) 0xFF800000#32 reduces_S4x32x256_S4x256 (.inl rfl) rfl)
    (broadcast S4x256 (Scalar.ofBits .f32 0x3B124925#32))

/-- The same, of the transposed tile. -/
def lastQT (y : FVec F S128x256 .f32) : FVec F S8x128 .f32 :=
  mulf (multiReduction .maximumf [1] S8x128 (shapeCast S8x32x128 (absf (transpose S256x128 [1, 0] y transposes_S128x256_p1_0_S256x128)) shapeCasts_S256x128_S8x32x128) 0xFF800000#32 reduces_S8x32x128_S8x128 (.inl rfl) rfl)
    (broadcast S8x128 (Scalar.ofBits .f32 0x3B124925#32))

/-- The row codes, tokens by channels. -/
def lastR (y : FVec F S128x256 .f32) (e : FVec F S256x256 .fp8e4m3) : FVec F S256x128 .fp8e4m3 :=
  truncf .fp8e4m3 (matmul dot_S256x256_S128x256_S256x128_1_1_0_0_n_n none e
    (truncf .fp8e4m3 (clipV (shapeCast S128x256 (mulf (shapeCast S4x32x256 y shapeCasts_S128x256_S4x32x256)
      (broadcastTo S4x32x256 (shapeCast S4x1x256 (invV (lastQ y)) shapeCasts_S4x256_S4x1x256) broadcasts_S4x1x256_S4x32x256)) shapeCasts_S4x32x256_S128x256)) bitsLt_fp8e4m3_f32)
    (constant S256x128 .f32 0x00000000#32)) bitsLt_fp8e4m3_f32

/-- The column codes, channels by tokens. -/
def lastC (y : FVec F S128x256 .f32) (x : FVec F S8x256 .bf16) : FVec F S128x256 .fp8e4m3 :=
  truncf .fp8e4m3 (clipV (mulf y (matmul dot_S8x128_S8x256_S128x256_0_0_1_1_n_n none (truncf .bf16 (invV (lastQT y)) bitsLt_bf16_f32) x
    (constant S128x256 .f32 0x00000000#32)))) bitsLt_fp8e4m3_f32

section Ideal
open Finset

theorem stepV_apply {S : Shape} (q : FVec Ideal S .f32) (t : BitVec 32) (b : IVec S 32) (j : S.Idx) : stepV q t b j = Expo.step (q j) t (b j) := by
  pointwise [stepV]
  rfl

theorem expoV_apply {S : Shape} (q : FVec Ideal S .f32) (j : S.Idx) : expoV q j = Expo.expo (q j) := by
  simp only [expoV, stepV_apply]
  rfl

theorem fieldV_apply {S : Shape} (q : FVec Ideal S .f32) (j : S.Idx) : fieldV q j = Expo.field (q j) := by
  pointwise [fieldV]
  simp only [expoV_apply]
  unfold Expo.field
  by_cases h : Expo.expo (q j) = 0#32
  · rw [if_pos h, h]; rfl
  · rw [if_neg h]
    have hc : IntOp.cmpi CmpIPredicate.eq (Expo.expo (q j)) 0#32 = 0#1 := by
      unfold IntOp.cmpi
      rw [beq_eq_false_iff_ne.mpr h]
      rfl
    rw [hc]
    rfl

theorem scaleV_apply {S : Shape} (q : FVec Ideal S .f32) (j : S.Idx) : scaleV q j = Expo.scale (q j) := by
  pointwise [scaleV]
  simp only [fieldV_apply]
  rfl

theorem invV_apply {S : Shape} (q : FVec Ideal S .f32) (j : S.Idx) : invV q j = Expo.inv (q j) := by
  pointwise [invV]
  simp only [fieldV_apply]
  rfl

theorem tileY_apply (rs : FVec Ideal S8x256 .f32) (g : FVec Ideal S256x128 .f32) (y : FVec Ideal S256x256 .f32) (d : Fin 256) (t : Fin 256) (r γ : EReal)
    (hr : ∀ s, rs (ix2 s t) = r) (hg : ∀ l, g (ix2 d l) = γ) : tileY rs g y (ix2 d t) = y (ix2 d t) * r * γ := by
  pointwise [tileY]
  split <;> simp only [hr, hg]

theorem lastY_apply (rs : FVec Ideal S8x256 .f32) (g : FVec Ideal S128x128 .f32) (y : FVec Ideal S128x256 .f32) (d : Fin 128) (t : Fin 256) (r γ : EReal)
    (hr : ∀ s, rs (ix2 s t) = r) (hg : ∀ l, g (ix2 d l) = γ) : lastY rs g y (ix2 d t) = y (ix2 d t) * r * γ := by
  pointwise [lastY]
  split <;> simp only [hr, hg]

theorem tileQ_apply (y : FVec Ideal S256x256 .f32) (d : Fin 8) (t : Fin 256) :
    tileQ y (ix2 d t) = Spec.gq fun k => y (ix2 ⟨d.val * 32 + k.val, by omega⟩ t) := by
  pointwise [tileQ]
  rfl

theorem lastQ_apply (y : FVec Ideal S128x256 .f32) (d : Fin 4) (t : Fin 256) :
    lastQ y (ix2 d t) = Spec.gq fun k => y (ix2 ⟨d.val * 32 + k.val, by omega⟩ t) := by
  pointwise [lastQ]
  rfl

theorem tileQT_apply (y : FVec Ideal S256x256 .f32) (d : Fin 8) (t : Fin 256) :
    tileQT y (ix2 d t) = Spec.gq fun k => y (ix2 t ⟨d.val * 32 + k.val, by omega⟩) := by
  pointwise [tileQT, tileQ]
  rfl

theorem lastQT_apply (y : FVec Ideal S128x256 .f32) (d : Fin 8) (t : Fin 128) :
    lastQT y (ix2 d t) = Spec.gq fun k => y (ix2 t ⟨d.val * 32 + k.val, by omega⟩) := by
  pointwise [lastQT]
  rfl

/-- A row of the identity picks an element of a sum. -/
theorem pick {n : ℕ} (e f : Fin n → EReal) (i : Fin n) (h : ∀ k, e k = if k = i then 1 else 0) :
    ∑ k, e k * f k = f i := by
  simp [h]

theorem pick' {n : ℕ} (e f : Fin n → EReal) (i : Fin n) (h : ∀ k, e k = if k = i then 1 else 0) :
    ∑ k, f k * e k = f i := by
  simp [h]

theorem tileR_apply (y : FVec Ideal S256x256 .f32) (e : FVec Ideal S256x256 .fp8e4m3) (he : ∀ i j, e (ix2 i j) = if j = i then 1 else 0) (t : Fin 256) (d : Fin 256) :
    tileR y e (ix2 t d) = Spec.clip (y (ix2 d t) * Expo.inv (tileQ y (ix2 ⟨d.val / 32, by omega⟩ t))) := by
  pointwise [tileR, clipV]
  rw [pick (fun x => e (ix2 t x)) _ t fun k => he t k]
  simp only [invV_apply]
  rfl

theorem lastR_apply (y : FVec Ideal S128x256 .f32) (e : FVec Ideal S256x256 .fp8e4m3) (he : ∀ i j, e (ix2 i j) = if j = i then 1 else 0) (t : Fin 256) (d : Fin 128) :
    lastR y e (ix2 t d) = Spec.clip (y (ix2 d t) * Expo.inv (lastQ y (ix2 ⟨d.val / 32, by omega⟩ t))) := by
  pointwise [lastR, clipV]
  rw [pick (fun x => e (ix2 t x)) _ t fun k => he t k]
  simp only [invV_apply]
  rfl

theorem tileC_apply (y : FVec Ideal S256x256 .f32) (e : FVec Ideal S8x256 .bf16) (he : ∀ i j, e (ix2 i j) = if i.val = j.val / 32 then 1 else 0) (d : Fin 256) (t : Fin 256) :
    tileC y e (ix2 d t) = Spec.clip (y (ix2 d t) * Expo.inv (tileQT y (ix2 ⟨t.val / 32, by omega⟩ d))) := by
  pointwise [tileC, clipV]
  rw [pick' (fun x => e (ix2 x t)) _ ⟨t.val / 32, by omega⟩ fun k => by rw [he k t]; simp only [Fin.ext_iff]]
  simp only [invV_apply]
  rfl

theorem lastC_apply (y : FVec Ideal S128x256 .f32) (e : FVec Ideal S8x256 .bf16) (he : ∀ i j, e (ix2 i j) = if i.val = j.val / 32 then 1 else 0) (d : Fin 128) (t : Fin 256) :
    lastC y e (ix2 d t) = Spec.clip (y (ix2 d t) * Expo.inv (lastQT y (ix2 ⟨t.val / 32, by omega⟩ d))) := by
  pointwise [lastC, clipV]
  rw [pick' (fun x => e (ix2 x t)) _ ⟨t.val / 32, by omega⟩ fun k => by rw [he k t]; simp only [Fin.ext_iff]]
  simp only [invV_apply]
  rfl

end Ideal

end Cert.KernelIdeal.Tile

end
-- ==== Proof.V.Total.lean ====
module

public import proofs.«01_k».proof.Proof.Gen.KernelIdeal.Skeleton
public import proofs.«01_k».proof.Proof.V.Tile
public import Idealize.ShloMosaic.Lib.Pipeline.ValueKit

@[expose] public section

set_option maxRecDepth 16384

noncomputable section

/-! # The sum of squares

The kernel adds the squares eight rows at a time, then the eight rows by three rotations, and the totals of the blocks of
128 channels in order: in every row of the result stands the sum over all channels. -/

namespace Cert.KernelIdeal.Total
open Idealize.ShloMosaic Idealize.ShloMosaic.TcCoe Cert.KernelIdeal Cert.KernelIdeal.Gen

variable {F : FTy → Type} [FloatOps F] [Named F]

/-- The sum of the groups of eight rows among rows 0 to 127. -/
def lo (v : FVec F S256x256 .f32) : FVec F S8x256 .f32 :=
  addf (addf (addf (addf (addf (addf (addf (addf (addf (addf (addf (addf (addf (addf (addf (extractStridedSlice S8x256 ![0, 0] v slices_S256x256_o0_0_S8x256) (extractStridedSlice S8x256 ![8, 0] v slices_S256x256_o8_0_S8x256)) (extractStridedSlice S8x256 ![16, 0] v slices_S256x256_o16_0_S8x256)) (extractStridedSlice S8x256 ![24, 0] v slices_S256x256_o24_0_S8x256)) (extractStridedSlice S8x256 ![32, 0] v slices_S256x256_o32_0_S8x256)) (extractStridedSlice S8x256 ![40, 0] v slices_S256x256_o40_0_S8x256)) (extractStridedSlice S8x256 ![48, 0] v slices_S256x256_o48_0_S8x256)) (extractStridedSlice S8x256 ![56, 0] v slices_S256x256_o56_0_S8x256)) (extractStridedSlice S8x256 ![64, 0] v slices_S256x256_o64_0_S8x256)) (extractStridedSlice S8x256 ![72, 0] v slices_S256x256_o72_0_S8x256)) (extractStridedSlice S8x256 ![80, 0] v slices_S256x256_o80_0_S8x256)) (extractStridedSlice S8x256 ![88, 0] v slices_S256x256_o88_0_S8x256)) (extractStridedSlice S8x256 ![96, 0] v slices_S256x256_o96_0_S8x256)) (extractStridedSlice S8x256 ![104, 0] v slices_S256x256_o104_0_S8x256)) (extractStridedSlice S8x256 ![112, 0] v slices_S256x256_o112_0_S8x256)) (extractStridedSlice S8x256 ![120, 0] v slices_S256x256_o120_0_S8x256)

/-- The sum of the groups of eight rows among rows 128 to 255. -/
def hi (v : FVec F S256x256 .f32) : FVec F S8x256 .f32 :=
  addf (addf (addf (addf (addf (addf (addf (addf (addf (addf (addf (addf (addf (addf (addf (extractStridedSlice S8x256 ![128, 0] v slices_S256x256_o128_0_S8x256) (extractStridedSlice S8x256 ![136, 0] v slices_S256x256_o136_0_S8x256)) (extractStridedSlice S8x256 ![144, 0] v slices_S256x256_o144_0_S8x256)) (extractStridedSlice S8x256 ![152, 0] v slices_S256x256_o152_0_S8x256)) (extractStridedSlice S8x256 ![160, 0] v slices_S256x256_o160_0_S8x256)) (extractStridedSlice S8x256 ![168, 0] v slices_S256x256_o168_0_S8x256)) (extractStridedSlice S8x256 ![176, 0] v slices_S256x256_o176_0_S8x256)) (extractStridedSlice S8x256 ![184, 0] v slices_S256x256_o184_0_S8x256)) (extractStridedSlice S8x256 ![192, 0] v slices_S256x256_o192_0_S8x256)) (extractStridedSlice S8x256 ![200, 0] v slices_S256x256_o200_0_S8x256)) (extractStridedSlice S8x256 ![208, 0] v slices_S256x256_o208_0_S8x256)) (extractStridedSlice S8x256 ![216, 0] v slices_S256x256_o216_0_S8x256)) (extractStridedSlice S8x256 ![224, 0] v slices_S256x256_o224_0_S8x256)) (extractStridedSlice S8x256 ![232, 0] v slices_S256x256_o232_0_S8x256)) (extractStridedSlice S8x256 ![240, 0] v slices_S256x256_o240_0_S8x256)) (extractStridedSlice S8x256 ![248, 0] v slices_S256x256_o248_0_S8x256)

/-- The sum of the groups of eight rows among the 128 rows of the last tile. -/
def la (v : FVec F S128x256 .f32) : FVec F S8x256 .f32 :=
  addf (addf (addf (addf (addf (addf (addf (addf (addf (addf (addf (addf (addf (addf (addf (extractStridedSlice S8x256 ![0, 0] v slices_S128x256_o0_0_S8x256) (extractStridedSlice S8x256 ![8, 0] v slices_S128x256_o8_0_S8x256)) (extractStridedSlice S8x256 ![16, 0] v slices_S128x256_o16_0_S8x256)) (extractStridedSlice S8x256 ![24, 0] v slices_S128x256_o24_0_S8x256)) (extractStridedSlice S8x256 ![32, 0] v slices_S128x256_o32_0_S8x256)) (extractStridedSlice S8x256 ![40, 0] v slices_S128x256_o40_0_S8x256)) (extractStridedSlice S8x256 ![48, 0] v slices_S128x256_o48_0_S8x256)) (extractStridedSlice S8x256 ![56, 0] v slices_S128x256_o56_0_S8x256)) (extractStridedSlice S8x256 ![64, 0] v slices_S128x256_o64_0_S8x256)) (extractStridedSlice S8x256 ![72, 0] v slices_S128x256_o72_0_S8x256)) (extractStridedSlice S8x256 ![80, 0] v slices_S128x256_o80_0_S8x256)) (extractStridedSlice S8x256 ![88, 0] v slices_S128x256_o88_0_S8x256)) (extractStridedSlice S8x256 ![96, 0] v slices_S128x256_o96_0_S8x256)) (extractStridedSlice S8x256 ![104, 0] v slices_S128x256_o104_0_S8x256)) (extractStridedSlice S8x256 ![112, 0] v slices_S128x256_o112_0_S8x256)) (extractStridedSlice S8x256 ![120, 0] v slices_S128x256_o120_0_S8x256)

/-- The eight rows added up, by three rotations. -/
def roll1 (k : BitVec 32) (s : FVec F S8x256 .f32) : FVec F S8x256 .f32 := addf s (dynamicRotate 0 k none s rotates_S8x256_d0)

/-- The eight rows added up, by three rotations. -/
def roll (s : FVec F S8x256 .f32) : FVec F S8x256 .f32 := roll1 1#32 (roll1 2#32 (roll1 4#32 s))

/-- A tile turned to channels by tokens, through a product with the identity. -/
def tileX (e : FVec F S256x256 .bf16) (x : FVec F S256x256 .bf16) : FVec F S256x256 .f32 :=
  matmul dot_S256x256_S256x256_S256x256_1_1_0_0_n_n none e (shapeCast S256x256 x shapeCasts_S256x256_S256x256) (constant S256x256 .f32 0x00000000#32)

/-- The last tile turned. -/
def lastX (e : FVec F S128x128 .bf16) (x : FVec F S256x128 .bf16) : FVec F S128x256 .f32 :=
  matmul dot_S128x128_S256x128_S128x256_1_1_0_0_n_n none e (shapeCast S256x128 x shapeCasts_S256x128_S256x128) (constant S128x256 .f32 0x00000000#32)

/-- A tile's squares. -/
def sqv {S : Shape} (v : FVec F S .f32) : FVec F S .f32 := mulf v v

/-- A tile's two blocks added to a total. -/
def add2 (tot : FVec F S8x256 .f32) (v : FVec F S256x256 .f32) : FVec F S8x256 .f32 :=
  addf (addf tot (roll (lo (sqv v)))) (roll (hi (sqv v)))

/-- The total over the six tiles. -/
def total (y0 y1 y2 y3 y4 : FVec F S256x256 .f32) (y5 : FVec F S128x256 .f32) : FVec F S8x256 .f32 :=
  addf (add2 (add2 (add2 (add2 (addf (roll (lo (sqv y0))) (roll (hi (sqv y0)))) y1) y2) y3) y4) (roll (la (sqv y5)))

/-- The inverse root mean square, in every one of eight rows. -/
def rsg (tot : FVec F S8x256 .f32) : FVec F S8x256 .f32 :=
  rsqrt (addf (mulf tot (broadcast S8x256 (Named.named κ "inv_d" 0x3A3A2E8C#32))) (broadcast S8x256 (Scalar.ofBits .f32 0x3727C5AC#32)))

section Ideal
open Finset

theorem tileX_apply (e x : FVec Ideal S256x256 .bf16) (he : ∀ i j, e (ix2 i j) = if j = i then 1 else 0) (d t : Fin 256) :
    tileX e x (ix2 d t) = x (ix2 t d) := by
  pointwise [tileX]
  rw [Tile.pick (fun k => e (ix2 d k)) _ d fun k => he d k]

theorem lastX_apply (e : FVec Ideal S128x128 .bf16) (x : FVec Ideal S256x128 .bf16) (he : ∀ i j, e (ix2 i j) = if j = i then 1 else 0) (d : Fin 128) (t : Fin 256) :
    lastX e x (ix2 d t) = x (ix2 t d) := by
  pointwise [lastX]
  rw [Tile.pick (fun k => e (ix2 d k)) _ d fun k => he d k]

theorem roll_apply (s : FVec Ideal S8x256 .f32) (f : ℕ → EReal) (t : Fin 256) (h : ∀ i : Fin 8, s (ix2 i t) = f i.val) (i : Fin 8) :
    roll s (ix2 i t) = ∑ k ∈ range 8, f k := by
  pointwise [roll, roll1]
  simp only [h]
  fin_cases i <;> (simp [sum_range_succ]; abel)

/-- Sixteen rows eight apart, for each of eight, are 128 rows. -/
theorem rows (f : ℕ → EReal) : ∑ i ∈ range 8, ∑ k ∈ range 16, f (k * 8 + i) = ∑ r ∈ range 128, f r := by
  rw [sum_comm]
  exact sum_range_range_mul_add 16 8 f

theorem lo_apply (v : FVec Ideal S256x256 .f32) (f : ℕ → EReal) (t : Fin 256) (h : ∀ r : Fin 256, v (ix2 r t) = f r.val) (i : Fin 8) :
    roll (lo v) (ix2 i t) = ∑ r ∈ range 128, f (0 + r) := by
  rw [← rows fun r => f (0 + r)]
  refine roll_apply (lo v) (fun i => ∑ k ∈ range 16, f (0 + (k * 8 + i))) t (fun i => ?_) i
  pointwise [lo]
  simp only [sum_range_succ, range_zero, sum_empty, zero_add, h, one_mul, zero_mul, Nat.reduceMul, ← add_assoc, Nat.reduceAdd]

theorem hi_apply (v : FVec Ideal S256x256 .f32) (f : ℕ → EReal) (t : Fin 256) (h : ∀ r : Fin 256, v (ix2 r t) = f r.val) (i : Fin 8) :
    roll (hi v) (ix2 i t) = ∑ r ∈ range 128, f (128 + r) := by
  rw [← rows fun r => f (128 + r)]
  refine roll_apply (hi v) (fun i => ∑ k ∈ range 16, f (128 + (k * 8 + i))) t (fun i => ?_) i
  pointwise [hi]
  simp only [sum_range_succ, range_zero, sum_empty, zero_add, h, one_mul, zero_mul, Nat.reduceMul, ← add_assoc, Nat.reduceAdd]

theorem la_apply (v : FVec Ideal S128x256 .f32) (f : ℕ → EReal) (t : Fin 256) (h : ∀ r : Fin 128, v (ix2 r t) = f r.val) (i : Fin 8) :
    roll (la v) (ix2 i t) = ∑ r ∈ range 128, f (0 + r) := by
  rw [← rows fun r => f (0 + r)]
  refine roll_apply (la v) (fun i => ∑ k ∈ range 16, f (0 + (k * 8 + i))) t (fun i => ?_) i
  pointwise [la]
  simp only [sum_range_succ, range_zero, sum_empty, zero_add, h, one_mul, zero_mul, Nat.reduceMul, ← add_assoc, Nat.reduceAdd]

theorem block (f : ℕ → EReal) (o : ℕ) : ∑ r ∈ range (o + 128), f r = ∑ r ∈ range o, f r + ∑ r ∈ range 128, f (o + r) := sum_range_add f o 128

theorem sqv_apply {S : Shape} (v : FVec Ideal S .f32) (j : S.Idx) : sqv v j = v j * v j := by
  pointwise [sqv]

theorem add2_apply (tot : FVec Ideal S8x256 .f32) (v : FVec Ideal S256x256 .f32) (f : ℕ → EReal) (o : ℕ) (t : Fin 256) (i : Fin 8)
    (ht : tot (ix2 i t) = ∑ r ∈ range o, f r * f r) (h : ∀ r : Fin 256, v (ix2 r t) = f (o + r.val)) :
    add2 tot v (ix2 i t) = ∑ r ∈ range (o + 128 + 128), f r * f r := by
  have hq : ∀ r : Fin 256, sqv v (ix2 r t) = (fun r => f (o + r) * f (o + r)) r.val := fun r => by rw [sqv_apply, h]
  pointwise [add2]
  rw [ht, lo_apply _ (fun r => f (o + r) * f (o + r)) t hq, hi_apply _ (fun r => f (o + r) * f (o + r)) t hq, block _ (o + 128), block _ o]
  simp only [zero_add, ← add_assoc]

/-- In every row of the total stands the sum over all channels. -/
theorem total_apply (y0 y1 y2 y3 y4 : FVec Ideal S256x256 .f32) (y5 : FVec Ideal S128x256 .f32) (f : ℕ → EReal) (t : Fin 256) (i : Fin 8)
    (h0 : ∀ r : Fin 256, y0 (ix2 r t) = f (0 + r.val)) (h1 : ∀ r : Fin 256, y1 (ix2 r t) = f (256 + r.val)) (h2 : ∀ r : Fin 256, y2 (ix2 r t) = f (512 + r.val))
    (h3 : ∀ r : Fin 256, y3 (ix2 r t) = f (768 + r.val)) (h4 : ∀ r : Fin 256, y4 (ix2 r t) = f (1024 + r.val)) (h5 : ∀ r : Fin 128, y5 (ix2 r t) = f (1280 + r.val)) :
    total y0 y1 y2 y3 y4 y5 (ix2 i t) = ∑ r ∈ range 1408, f r * f r := by
  have hq0 : ∀ r : Fin 256, sqv y0 (ix2 r t) = (fun r => f r * f r) r.val := fun r => by rw [sqv_apply, h0, zero_add]
  have hq5 : ∀ r : Fin 128, sqv y5 (ix2 r t) = (fun r => f (1280 + r) * f (1280 + r)) r.val := fun r => by rw [sqv_apply, h5]
  have e0 : addf (roll (lo (sqv y0))) (roll (hi (sqv y0))) (ix2 i t) = ∑ r ∈ range 256, f r * f r := by
    pointwise
    rw [lo_apply _ (fun r => f r * f r) t hq0, hi_apply _ (fun r => f r * f r) t hq0, show (256 : ℕ) = 128 + 128 from rfl, block _ 128]
    simp only [zero_add]
  have e4 := add2_apply _ y4 f 1024 t i (add2_apply _ y3 f 768 t i (add2_apply _ y2 f 512 t i (add2_apply _ y1 f 256 t i e0 h1) h2) h3) h4
  pointwise [total]
  rw [e4, la_apply _ (fun r => f (1280 + r) * f (1280 + r)) t hq5, show (1408 : ℕ) = 1280 + 128 from rfl, block _ 1280]
  simp only [zero_add, Nat.reduceAdd]

theorem rsg_apply (tot : FVec Ideal S8x256 .f32) (X : ℕ → ℕ → EReal) (b : ℕ) (i : Fin 8) (t : Fin 256) (h : tot (ix2 i t) = Spec.ssq X b) :
    rsg tot (ix2 i t) = Spec.sig X b := by
  pointwise [rsg]
  rw [h]
  rfl

end Ideal

end Cert.KernelIdeal.Total

end
-- ==== Proof.V.Point.lean ====
module

public import proofs.«01_k».proof.Proof.W.Outs
public import proofs.«01_k».proof.Proof.V.Total
public import Idealize.ShloMosaic.Lib.Pipeline.ReadBack

@[expose] public section

set_option maxRecDepth 65536

noncomputable section

/-! # The pieces that a grid point stores, tile by tile -/

namespace Cert.KernelIdeal.Point
open Idealize.ShloMosaic Idealize.ShloMosaic.TcCoe Idealize.ShloMosaic.Tactic Cert.KernelIdeal Cert.KernelIdeal.Gen
open Cert.KernelIdeal.Tile Cert.KernelIdeal.Total

variable {F : FTy → Type} [FloatOps F] [Named F]
variable (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) (x0 : Vec F S256x1408 .bf16) (xs9 : Vec F S1408x128 .f32) (xs10 : Vec F S128x1408 .f32) (xs11 : Vec F S256x256 .bf16) (xs12 : Vec F S256x256 .fp8e4m3) (xs13 : Vec F S8x256 .bf16)

/-- The identity, as a point loads it. -/
def ldE : Vec F S256x256 .bf16 := (View.readAt (Elt F) arg11.view (Rect.unit ![0, 0] ![256, 256] inb_S256x256_S256x256_0_0).toLoadRect (harg11.unread xs11) :)
/-- The identity of the last tile. -/
def ldE5 : Vec F S128x128 .bf16 := (View.readAt (Elt F) arg11.view (Rect.unit ![0, 0] ![128, 128] inb_S256x256_S128x128_0_0).toLoadRect (harg11.unread xs11) :)
/-- The identity of the codes. -/
def ldI : Vec F S256x256 .fp8e4m3 := (View.readAt (Elt F) arg12.view (Rect.unit ![0, 0] ![256, 256] inb_S256x256_S256x256_0_0).toLoadRect (harg12.unread xs12) :)
/-- The table that repeats a group's scale over its tokens. -/
def ldP : Vec F S8x256 .bf16 := (View.readAt (Elt F) arg13.view (Rect.unit ![0, 0] ![8, 256] inb_S8x256_S8x256_0_0).toLoadRect (harg13.unread xs13) :)
/-- Tile 0 of the input. -/
def ldX0 : Vec F S256x256 .bf16 := (View.readAt (Elt F) arg1.view (Rect.unit ![0, 0] ![256, 256] inb_S256x1408_S256x256_0_0).toLoadRect (harg1.unread x0) :)
/-- Tile 0 of the weights. -/
def ldG0 : Vec F S256x128 .f32 := (View.readAt (Elt F) arg9.view (Rect.unit ![0, 0] ![256, 128] inb_S1408x128_S256x128_0_0).toLoadRect (harg9.unread xs9) :)
/-- Tile 0 turned. -/
def X0 : FVec F S256x256 .f32 := tileX (ldE arg11 harg11 xs11) (ldX0 arg1 harg1 x0)
/-- Tile 1 of the input. -/
def ldX1 : Vec F S256x256 .bf16 := (View.readAt (Elt F) arg1.view (Rect.unit ![0, 256] ![256, 256] inb_S256x1408_S256x256_0_256).toLoadRect (harg1.unread x0) :)
/-- Tile 1 of the weights. -/
def ldG1 : Vec F S256x128 .f32 := (View.readAt (Elt F) arg9.view (Rect.unit ![256, 0] ![256, 128] inb_S1408x128_S256x128_256_0).toLoadRect (harg9.unread xs9) :)
/-- Tile 1 turned. -/
def X1 : FVec F S256x256 .f32 := tileX (ldE arg11 harg11 xs11) (ldX1 arg1 harg1 x0)
/-- Tile 2 of the input. -/
def ldX2 : Vec F S256x256 .bf16 := (View.readAt (Elt F) arg1.view (Rect.unit ![0, 512] ![256, 256] inb_S256x1408_S256x256_0_512).toLoadRect (harg1.unread x0) :)
/-- Tile 2 of the weights. -/
def ldG2 : Vec F S256x128 .f32 := (View.readAt (Elt F) arg9.view (Rect.unit ![512, 0] ![256, 128] inb_S1408x128_S256x128_512_0).toLoadRect (harg9.unread xs9) :)
/-- Tile 2 turned. -/
def X2 : FVec F S256x256 .f32 := tileX (ldE arg11 harg11 xs11) (ldX2 arg1 harg1 x0)
/-- Tile 3 of the input. -/
def ldX3 : Vec F S256x256 .bf16 := (View.readAt (Elt F) arg1.view (Rect.unit ![0, 768] ![256, 256] inb_S256x1408_S256x256_0_768).toLoadRect (harg1.unread x0) :)
/-- Tile 3 of the weights. -/
def ldG3 : Vec F S256x128 .f32 := (View.readAt (Elt F) arg9.view (Rect.unit ![768, 0] ![256, 128] inb_S1408x128_S256x128_768_0).toLoadRect (harg9.unread xs9) :)
/-- Tile 3 turned. -/
def X3 : FVec F S256x256 .f32 := tileX (ldE arg11 harg11 xs11) (ldX3 arg1 harg1 x0)
/-- Tile 4 of the input. -/
def ldX4 : Vec F S256x256 .bf16 := (View.readAt (Elt F) arg1.view (Rect.unit ![0, 1024] ![256, 256] inb_S256x1408_S256x256_0_1024).toLoadRect (harg1.unread x0) :)
/-- Tile 4 of the weights. -/
def ldG4 : Vec F S256x128 .f32 := (View.readAt (Elt F) arg9.view (Rect.unit ![1024, 0] ![256, 128] inb_S1408x128_S256x128_1024_0).toLoadRect (harg9.unread xs9) :)
/-- Tile 4 turned. -/
def X4 : FVec F S256x256 .f32 := tileX (ldE arg11 harg11 xs11) (ldX4 arg1 harg1 x0)
/-- Tile 5 of the input. -/
def ldX5 : Vec F S256x128 .bf16 := (View.readAt (Elt F) arg1.view (Rect.unit ![0, 1280] ![256, 128] inb_S256x1408_S256x128_0_1280).toLoadRect (harg1.unread x0) :)
/-- Tile 5 of the weights. -/
def ldG5 : Vec F S128x128 .f32 := (View.readAt (Elt F) arg9.view (Rect.unit ![1280, 0] ![128, 128] inb_S1408x128_S128x128_1280_0).toLoadRect (harg9.unread xs9) :)
/-- Tile 5 turned. -/
def X5 : FVec F S128x256 .f32 := lastX (ldE5 arg11 harg11 xs11) (ldX5 arg1 harg1 x0)
/-- The inverse root mean square, in every one of eight rows. -/
def RS : FVec F S8x256 .f32 := rsg (total (X0 arg1 harg1 arg11 harg11 x0 xs11) (X1 arg1 harg1 arg11 harg11 x0 xs11) (X2 arg1 harg1 arg11 harg11 x0 xs11) (X3 arg1 harg1 arg11 harg11 x0 xs11) (X4 arg1 harg1 arg11 harg11 x0 xs11) (X5 arg1 harg1 arg11 harg11 x0 xs11))
/-- Tile 0 normalised. -/
def Y0 : FVec F S256x256 .f32 := tileY (RS arg1 harg1 arg11 harg11 x0 xs11) (ldG0 arg9 harg9 xs9) (X0 arg1 harg1 arg11 harg11 x0 xs11)
/-- Tile 1 normalised. -/
def Y1 : FVec F S256x256 .f32 := tileY (RS arg1 harg1 arg11 harg11 x0 xs11) (ldG1 arg9 harg9 xs9) (X1 arg1 harg1 arg11 harg11 x0 xs11)
/-- Tile 2 normalised. -/
def Y2 : FVec F S256x256 .f32 := tileY (RS arg1 harg1 arg11 harg11 x0 xs11) (ldG2 arg9 harg9 xs9) (X2 arg1 harg1 arg11 harg11 x0 xs11)
/-- Tile 3 normalised. -/
def Y3 : FVec F S256x256 .f32 := tileY (RS arg1 harg1 arg11 harg11 x0 xs11) (ldG3 arg9 harg9 xs9) (X3 arg1 harg1 arg11 harg11 x0 xs11)
/-- Tile 4 normalised. -/
def Y4 : FVec F S256x256 .f32 := tileY (RS arg1 harg1 arg11 harg11 x0 xs11) (ldG4 arg9 harg9 xs9) (X4 arg1 harg1 arg11 harg11 x0 xs11)
/-- Tile 5 normalised. -/
def Y5 : FVec F S128x256 .f32 := lastY (RS arg1 harg1 arg11 harg11 x0 xs11) (ldG5 arg9 harg9 xs9) (X5 arg1 harg1 arg11 harg11 x0 xs11)

theorem r22_eq : midRun.sl.r_22 c i arg1 harg1 arg11 harg11 x0 xs11 = RS arg1 harg1 arg11 harg11 x0 xs11 := by sl_kernel_rfl

theorem v479_eq : midRun.sl.v479 c arg1 harg1 arg8 arg11 harg11 x0 xs11 = X0 arg1 harg1 arg11 harg11 x0 xs11 := by
  unfold midRun.sl.v479 midRun.sl.H8_6
  simp (disch := decide) only [↓ View.readCov_skip, ↓ View.readCov_cons_toLoadRect]
  unfold X0 tileX ldE ldX0
  exact shapeCast_self _ _

theorem v682_eq : midRun.sl.v682 c arg1 harg1 arg8 arg11 harg11 x0 xs11 = X1 arg1 harg1 arg11 harg11 x0 xs11 := by
  unfold midRun.sl.v682 midRun.sl.H8_6
  simp (disch := decide) only [↓ View.readCov_skip, ↓ View.readCov_cons_toLoadRect]
  unfold X1 tileX ldE ldX1
  exact shapeCast_self _ _

theorem v885_eq : midRun.sl.v885 c arg1 harg1 arg8 arg11 harg11 x0 xs11 = X2 arg1 harg1 arg11 harg11 x0 xs11 := by
  unfold midRun.sl.v885 midRun.sl.H8_6
  simp (disch := decide) only [↓ View.readCov_skip, ↓ View.readCov_cons_toLoadRect]
  unfold X2 tileX ldE ldX2
  exact shapeCast_self _ _

theorem v1088_eq : midRun.sl.v1088 c arg1 harg1 arg8 arg11 harg11 x0 xs11 = X3 arg1 harg1 arg11 harg11 x0 xs11 := by
  unfold midRun.sl.v1088 midRun.sl.H8_6
  simp (disch := decide) only [↓ View.readCov_skip, ↓ View.readCov_cons_toLoadRect]
  unfold X3 tileX ldE ldX3
  exact shapeCast_self _ _

theorem v1291_eq : midRun.sl.v1291 c arg1 harg1 arg8 arg11 harg11 x0 xs11 = X4 arg1 harg1 arg11 harg11 x0 xs11 := by
  unfold midRun.sl.v1291 midRun.sl.H8_6
  simp (disch := decide) only [↓ View.readCov_skip, ↓ View.readCov_cons_toLoadRect]
  unfold X4 tileX ldE ldX4
  exact shapeCast_self _ _

theorem v1494_eq : midRun.sl.v1494 c arg1 harg1 arg8 arg11 harg11 x0 xs11 = X5 arg1 harg1 arg11 harg11 x0 xs11 := by
  unfold midRun.sl.v1494 midRun.sl.H8_6
  simp (disch := decide) only [↓ View.readCov_skip, ↓ View.readCov_cons_toLoadRect]
  unfold X5 lastX ldE5 ldX5
  exact shapeCast_self _ _

theorem y0_eq : midRun.sl.r_23 c i arg1 harg1 arg8 arg9 harg9 arg11 harg11 x0 xs9 xs11 = Y0 arg1 harg1 arg9 harg9 arg11 harg11 x0 xs9 xs11 := by
  have h : midRun.sl.r_23 c i arg1 harg1 arg8 arg9 harg9 arg11 harg11 x0 xs9 xs11 = tileY (midRun.sl.r_22 c i arg1 harg1 arg11 harg11 x0 xs11) (ldG0 arg9 harg9 xs9) (midRun.sl.v479 c arg1 harg1 arg8 arg11 harg11 x0 xs11) := by sl_kernel_rfl
  rw [h, r22_eq, v479_eq]
  rfl

theorem y1_eq : midRun.sl.r_35 c i arg1 harg1 arg8 arg9 harg9 arg11 harg11 x0 xs9 xs11 = Y1 arg1 harg1 arg9 harg9 arg11 harg11 x0 xs9 xs11 := by
  have h : midRun.sl.r_35 c i arg1 harg1 arg8 arg9 harg9 arg11 harg11 x0 xs9 xs11 = tileY (midRun.sl.r_22 c i arg1 harg1 arg11 harg11 x0 xs11) (ldG1 arg9 harg9 xs9) (midRun.sl.v682 c arg1 harg1 arg8 arg11 harg11 x0 xs11) := by sl_kernel_rfl
  rw [h, r22_eq, v682_eq]
  rfl

theorem y2_eq : midRun.sl.r_48 c i arg1 harg1 arg8 arg9 harg9 arg11 harg11 x0 xs9 xs11 = Y2 arg1 harg1 arg9 harg9 arg11 harg11 x0 xs9 xs11 := by
  have h : midRun.sl.r_48 c i arg1 harg1 arg8 arg9 harg9 arg11 harg11 x0 xs9 xs11 = tileY (midRun.sl.r_22 c i arg1 harg1 arg11 harg11 x0 xs11) (ldG2 arg9 harg9 xs9) (midRun.sl.v885 c arg1 harg1 arg8 arg11 harg11 x0 xs11) := by sl_kernel_rfl
  rw [h, r22_eq, v885_eq]
  rfl

theorem y3_eq : midRun.sl.r_58 c i arg1 harg1 arg8 arg9 harg9 arg11 harg11 x0 xs9 xs11 = Y3 arg1 harg1 arg9 harg9 arg11 harg11 x0 xs9 xs11 := by
  have h : midRun.sl.r_58 c i arg1 harg1 arg8 arg9 harg9 arg11 harg11 x0 xs9 xs11 = tileY (midRun.sl.r_22 c i arg1 harg1 arg11 harg11 x0 xs11) (ldG3 arg9 harg9 xs9) (midRun.sl.v1088 c arg1 harg1 arg8 arg11 harg11 x0 xs11) := by sl_kernel_rfl
  rw [h, r22_eq, v1088_eq]
  rfl

theorem y4_eq : midRun.sl.r_67 c i arg1 harg1 arg8 arg9 harg9 arg11 harg11 x0 xs9 xs11 = Y4 arg1 harg1 arg9 harg9 arg11 harg11 x0 xs9 xs11 := by
  have h : midRun.sl.r_67 c i arg1 harg1 arg8 arg9 harg9 arg11 harg11 x0 xs9 xs11 = tileY (midRun.sl.r_22 c i arg1 harg1 arg11 harg11 x0 xs11) (ldG4 arg9 harg9 xs9) (midRun.sl.v1291 c arg1 harg1 arg8 arg11 harg11 x0 xs11) := by sl_kernel_rfl
  rw [h, r22_eq, v1291_eq]
  rfl

theorem y5_eq : midRun.sl.r_78 c i arg1 harg1 arg8 arg9 harg9 arg11 harg11 x0 xs9 xs11 = Y5 arg1 harg1 arg9 harg9 arg11 harg11 x0 xs9 xs11 := by
  have h : midRun.sl.r_78 c i arg1 harg1 arg8 arg9 harg9 arg11 harg11 x0 xs9 xs11 = lastY (midRun.sl.r_22 c i arg1 harg1 arg11 harg11 x0 xs11) (ldG5 arg9 harg9 xs9) (midRun.sl.v1494 c arg1 harg1 arg8 arg11 harg11 x0 xs11) := by sl_kernel_rfl
  rw [h, r22_eq, v1494_eq]
  rfl

theorem inb0 (i : grid0.Coords) : ∀ a, k0_off1 i a + (![8, 256] : Fin 2 → ℕ) a ≤ S128x1408.size a := by
  rw [off1_eq]
  intro a
  fin_cases a
  · show 8 * ((i 0).val % 16) + 8 ≤ 128
    omega
  · show 0 + 256 ≤ 1408
    omega
theorem inb1 (i : grid0.Coords) : ∀ a, k0_off2 i a + (![8, 256] : Fin 2 → ℕ) a ≤ S128x1408.size a := by
  rw [off2_eq]
  intro a
  fin_cases a
  · show 8 * ((i 0).val % 16) + 8 ≤ 128
    omega
  · show 256 + 256 ≤ 1408
    omega
theorem inb2 (i : grid0.Coords) : ∀ a, k0_off3 i a + (![8, 256] : Fin 2 → ℕ) a ≤ S128x1408.size a := by
  rw [off3_eq]
  intro a
  fin_cases a
  · show 8 * ((i 0).val % 16) + 8 ≤ 128
    omega
  · show 512 + 256 ≤ 1408
    omega
theorem inb3 (i : grid0.Coords) : ∀ a, k0_off4 i a + (![8, 256] : Fin 2 → ℕ) a ≤ S128x1408.size a := by
  rw [off4_eq]
  intro a
  fin_cases a
  · show 8 * ((i 0).val % 16) + 8 ≤ 128
    omega
  · show 768 + 256 ≤ 1408
    omega
theorem inb4 (i : grid0.Coords) : ∀ a, k0_off5 i a + (![8, 256] : Fin 2 → ℕ) a ≤ S128x1408.size a := by
  rw [off5_eq]
  intro a
  fin_cases a
  · show 8 * ((i 0).val % 16) + 8 ≤ 128
    omega
  · show 1024 + 256 ≤ 1408
    omega
theorem inb5 (i : grid0.Coords) : ∀ a, k0_off6 i a + (![8, 128] : Fin 2 → ℕ) a ≤ S128x1408.size a := by
  rw [off6_eq]
  intro a
  fin_cases a
  · show 8 * ((i 0).val % 16) + 8 ≤ 128
    omega
  · show 1280 + 128 ≤ 1408
    omega
theorem rc_list : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).1 = [⟨Rect.unit ![0, 1280] ![256, 128] inb_S256x1408_S256x128_0_1280, lastR (Y5 arg1 harg1 arg9 harg9 arg11 harg11 x0 xs9 xs11) (ldI arg12 harg12 xs12)⟩,
      ⟨Rect.unit ![0, 1024] ![256, 256] inb_S256x1408_S256x256_0_1024, tileR (Y4 arg1 harg1 arg9 harg9 arg11 harg11 x0 xs9 xs11) (ldI arg12 harg12 xs12)⟩,
      ⟨Rect.unit ![0, 768] ![256, 256] inb_S256x1408_S256x256_0_768, tileR (Y3 arg1 harg1 arg9 harg9 arg11 harg11 x0 xs9 xs11) (ldI arg12 harg12 xs12)⟩,
      ⟨Rect.unit ![0, 512] ![256, 256] inb_S256x1408_S256x256_0_512, tileR (Y2 arg1 harg1 arg9 harg9 arg11 harg11 x0 xs9 xs11) (ldI arg12 harg12 xs12)⟩,
      ⟨Rect.unit ![0, 256] ![256, 256] inb_S256x1408_S256x256_0_256, tileR (Y1 arg1 harg1 arg9 harg9 arg11 harg11 x0 xs9 xs11) (ldI arg12 harg12 xs12)⟩,
      ⟨Rect.unit ![0, 0] ![256, 256] inb_S256x1408_S256x256_0_0, tileR (Y0 arg1 harg1 arg9 harg9 arg11 harg11 x0 xs9 xs11) (ldI arg12 harg12 xs12)⟩] := by
  have h : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).1 = [⟨Rect.unit ![0, 1280] ![256, 128] inb_S256x1408_S256x128_0_1280, lastR (midRun.sl.r_78 c i arg1 harg1 arg8 arg9 harg9 arg11 harg11 x0 xs9 xs11) (ldI arg12 harg12 xs12)⟩,
      ⟨Rect.unit ![0, 1024] ![256, 256] inb_S256x1408_S256x256_0_1024, tileR (midRun.sl.r_67 c i arg1 harg1 arg8 arg9 harg9 arg11 harg11 x0 xs9 xs11) (ldI arg12 harg12 xs12)⟩,
      ⟨Rect.unit ![0, 768] ![256, 256] inb_S256x1408_S256x256_0_768, tileR (midRun.sl.r_58 c i arg1 harg1 arg8 arg9 harg9 arg11 harg11 x0 xs9 xs11) (ldI arg12 harg12 xs12)⟩,
      ⟨Rect.unit ![0, 512] ![256, 256] inb_S256x1408_S256x256_0_512, tileR (midRun.sl.r_48 c i arg1 harg1 arg8 arg9 harg9 arg11 harg11 x0 xs9 xs11) (ldI arg12 harg12 xs12)⟩,
      ⟨Rect.unit ![0, 256] ![256, 256] inb_S256x1408_S256x256_0_256, tileR (midRun.sl.r_35 c i arg1 harg1 arg8 arg9 harg9 arg11 harg11 x0 xs9 xs11) (ldI arg12 harg12 xs12)⟩,
      ⟨Rect.unit ![0, 0] ![256, 256] inb_S256x1408_S256x256_0_0, tileR (midRun.sl.r_23 c i arg1 harg1 arg8 arg9 harg9 arg11 harg11 x0 xs9 xs11) (ldI arg12 harg12 xs12)⟩] := by sl_kernel_rfl
  rw [h, y0_eq, y1_eq, y2_eq, y3_eq, y4_eq, y5_eq]

theorem rs_list : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.1 = [⟨Rect.unit ![40, 0] ![4, 256] inb_S44x256_S4x256_40_0, scaleV (lastQ (Y5 arg1 harg1 arg9 harg9 arg11 harg11 x0 xs9 xs11))⟩,
      ⟨Rect.unit ![32, 0] ![8, 256] inb_S44x256_S8x256_32_0, scaleV (tileQ (Y4 arg1 harg1 arg9 harg9 arg11 harg11 x0 xs9 xs11))⟩,
      ⟨Rect.unit ![24, 0] ![8, 256] inb_S44x256_S8x256_24_0, scaleV (tileQ (Y3 arg1 harg1 arg9 harg9 arg11 harg11 x0 xs9 xs11))⟩,
      ⟨Rect.unit ![16, 0] ![8, 256] inb_S44x256_S8x256_16_0, scaleV (tileQ (Y2 arg1 harg1 arg9 harg9 arg11 harg11 x0 xs9 xs11))⟩,
      ⟨Rect.unit ![8, 0] ![8, 256] inb_S44x256_S8x256_8_0, scaleV (tileQ (Y1 arg1 harg1 arg9 harg9 arg11 harg11 x0 xs9 xs11))⟩,
      ⟨Rect.unit ![0, 0] ![8, 256] inb_S44x256_S8x256_0_0, scaleV (tileQ (Y0 arg1 harg1 arg9 harg9 arg11 harg11 x0 xs9 xs11))⟩] := by
  have h : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.1 = [⟨Rect.unit ![40, 0] ![4, 256] inb_S44x256_S4x256_40_0, scaleV (lastQ (midRun.sl.r_78 c i arg1 harg1 arg8 arg9 harg9 arg11 harg11 x0 xs9 xs11))⟩,
      ⟨Rect.unit ![32, 0] ![8, 256] inb_S44x256_S8x256_32_0, scaleV (tileQ (midRun.sl.r_67 c i arg1 harg1 arg8 arg9 harg9 arg11 harg11 x0 xs9 xs11))⟩,
      ⟨Rect.unit ![24, 0] ![8, 256] inb_S44x256_S8x256_24_0, scaleV (tileQ (midRun.sl.r_58 c i arg1 harg1 arg8 arg9 harg9 arg11 harg11 x0 xs9 xs11))⟩,
      ⟨Rect.unit ![16, 0] ![8, 256] inb_S44x256_S8x256_16_0, scaleV (tileQ (midRun.sl.r_48 c i arg1 harg1 arg8 arg9 harg9 arg11 harg11 x0 xs9 xs11))⟩,
      ⟨Rect.unit ![8, 0] ![8, 256] inb_S44x256_S8x256_8_0, scaleV (tileQ (midRun.sl.r_35 c i arg1 harg1 arg8 arg9 harg9 arg11 harg11 x0 xs9 xs11))⟩,
      ⟨Rect.unit ![0, 0] ![8, 256] inb_S44x256_S8x256_0_0, scaleV (tileQ (midRun.sl.r_23 c i arg1 harg1 arg8 arg9 harg9 arg11 harg11 x0 xs9 xs11))⟩] := by sl_kernel_rfl
  rw [h, y0_eq, y1_eq, y2_eq, y3_eq, y4_eq, y5_eq]

theorem cc_list : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.1 = [⟨Rect.unit ![1280, 0] ![128, 256] inb_S1408x256_S128x256_1280_0, lastC (Y5 arg1 harg1 arg9 harg9 arg11 harg11 x0 xs9 xs11) (ldP arg13 harg13 xs13)⟩,
      ⟨Rect.unit ![1024, 0] ![256, 256] inb_S1408x256_S256x256_1024_0, tileC (Y4 arg1 harg1 arg9 harg9 arg11 harg11 x0 xs9 xs11) (ldP arg13 harg13 xs13)⟩,
      ⟨Rect.unit ![768, 0] ![256, 256] inb_S1408x256_S256x256_768_0, tileC (Y3 arg1 harg1 arg9 harg9 arg11 harg11 x0 xs9 xs11) (ldP arg13 harg13 xs13)⟩,
      ⟨Rect.unit ![512, 0] ![256, 256] inb_S1408x256_S256x256_512_0, tileC (Y2 arg1 harg1 arg9 harg9 arg11 harg11 x0 xs9 xs11) (ldP arg13 harg13 xs13)⟩,
      ⟨Rect.unit ![256, 0] ![256, 256] inb_S1408x256_S256x256_256_0, tileC (Y1 arg1 harg1 arg9 harg9 arg11 harg11 x0 xs9 xs11) (ldP arg13 harg13 xs13)⟩,
      ⟨Rect.unit ![0, 0] ![256, 256] inb_S1408x256_S256x256_0_0, tileC (Y0 arg1 harg1 arg9 harg9 arg11 harg11 x0 xs9 xs11) (ldP arg13 harg13 xs13)⟩] := by
  have h : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.1 = [⟨Rect.unit ![1280, 0] ![128, 256] inb_S1408x256_S128x256_1280_0, lastC (midRun.sl.r_78 c i arg1 harg1 arg8 arg9 harg9 arg11 harg11 x0 xs9 xs11) (ldP arg13 harg13 xs13)⟩,
      ⟨Rect.unit ![1024, 0] ![256, 256] inb_S1408x256_S256x256_1024_0, tileC (midRun.sl.r_67 c i arg1 harg1 arg8 arg9 harg9 arg11 harg11 x0 xs9 xs11) (ldP arg13 harg13 xs13)⟩,
      ⟨Rect.unit ![768, 0] ![256, 256] inb_S1408x256_S256x256_768_0, tileC (midRun.sl.r_58 c i arg1 harg1 arg8 arg9 harg9 arg11 harg11 x0 xs9 xs11) (ldP arg13 harg13 xs13)⟩,
      ⟨Rect.unit ![512, 0] ![256, 256] inb_S1408x256_S256x256_512_0, tileC (midRun.sl.r_48 c i arg1 harg1 arg8 arg9 harg9 arg11 harg11 x0 xs9 xs11) (ldP arg13 harg13 xs13)⟩,
      ⟨Rect.unit ![256, 0] ![256, 256] inb_S1408x256_S256x256_256_0, tileC (midRun.sl.r_35 c i arg1 harg1 arg8 arg9 harg9 arg11 harg11 x0 xs9 xs11) (ldP arg13 harg13 xs13)⟩,
      ⟨Rect.unit ![0, 0] ![256, 256] inb_S1408x256_S256x256_0_0, tileC (midRun.sl.r_23 c i arg1 harg1 arg8 arg9 harg9 arg11 harg11 x0 xs9 xs11) (ldP arg13 harg13 xs13)⟩] := by sl_kernel_rfl
  rw [h, y0_eq, y1_eq, y2_eq, y3_eq, y4_eq, y5_eq]

end Cert.KernelIdeal.Point

end
-- ==== Proof.V.Cols.lean ====
module

public import proofs.«01_k».proof.Proof.W.Outs
public import proofs.«01_k».proof.Proof.V.Point
public import Idealize.ShloMosaic.Lib.Pipeline.ReadBack

@[expose] public section

set_option maxRecDepth 65536

noncomputable section

/-! # The column scales and the row statistic that a grid point stores -/

namespace Cert.KernelIdeal.Point
open Idealize.ShloMosaic Idealize.ShloMosaic.TcCoe Idealize.ShloMosaic.Tactic Cert.KernelIdeal Cert.KernelIdeal.Gen
open Cert.KernelIdeal.Tile Cert.KernelIdeal.Total

variable {F : FTy → Type} [FloatOps F] [Named F]
variable (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) (x0 : Vec F S256x1408 .bf16) (xs9 : Vec F S1408x128 .f32) (xs10 : Vec F S128x1408 .f32) (xs11 : Vec F S256x256 .bf16) (xs12 : Vec F S256x256 .fp8e4m3) (xs13 : Vec F S8x256 .bf16)

theorem col_list : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.2.2.1 = [⟨Rect.unit (k0_off6 i) ![8, 128] (inb5 i), shapeCast S8x128 (scaleV (lastQT (Y5 arg1 harg1 arg9 harg9 arg11 harg11 x0 xs9 xs11))) shapeCasts_S8x128_S8x128⟩,
      ⟨Rect.unit (k0_off5 i) ![8, 256] (inb4 i), shapeCast S8x256 (scaleV (tileQT (Y4 arg1 harg1 arg9 harg9 arg11 harg11 x0 xs9 xs11))) shapeCasts_S8x256_S8x256⟩,
      ⟨Rect.unit (k0_off4 i) ![8, 256] (inb3 i), shapeCast S8x256 (scaleV (tileQT (Y3 arg1 harg1 arg9 harg9 arg11 harg11 x0 xs9 xs11))) shapeCasts_S8x256_S8x256⟩,
      ⟨Rect.unit (k0_off3 i) ![8, 256] (inb2 i), shapeCast S8x256 (scaleV (tileQT (Y2 arg1 harg1 arg9 harg9 arg11 harg11 x0 xs9 xs11))) shapeCasts_S8x256_S8x256⟩,
      ⟨Rect.unit (k0_off2 i) ![8, 256] (inb1 i), shapeCast S8x256 (scaleV (tileQT (Y1 arg1 harg1 arg9 harg9 arg11 harg11 x0 xs9 xs11))) shapeCasts_S8x256_S8x256⟩,
      ⟨Rect.unit (k0_off1 i) ![8, 256] (inb0 i), shapeCast S8x256 (scaleV (tileQT (Y0 arg1 harg1 arg9 harg9 arg11 harg11 x0 xs9 xs11))) shapeCasts_S8x256_S8x256⟩] := by
  have h : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.2.2.1 = [⟨Rect.unit (k0_off6 i) ![8, 128] (inb5 i), shapeCast S8x128 (scaleV (lastQT (midRun.sl.r_78 c i arg1 harg1 arg8 arg9 harg9 arg11 harg11 x0 xs9 xs11))) shapeCasts_S8x128_S8x128⟩,
      ⟨Rect.unit (k0_off5 i) ![8, 256] (inb4 i), shapeCast S8x256 (scaleV (tileQT (midRun.sl.r_67 c i arg1 harg1 arg8 arg9 harg9 arg11 harg11 x0 xs9 xs11))) shapeCasts_S8x256_S8x256⟩,
      ⟨Rect.unit (k0_off4 i) ![8, 256] (inb3 i), shapeCast S8x256 (scaleV (tileQT (midRun.sl.r_58 c i arg1 harg1 arg8 arg9 harg9 arg11 harg11 x0 xs9 xs11))) shapeCasts_S8x256_S8x256⟩,
      ⟨Rect.unit (k0_off3 i) ![8, 256] (inb2 i), shapeCast S8x256 (scaleV (tileQT (midRun.sl.r_48 c i arg1 harg1 arg8 arg9 harg9 arg11 harg11 x0 xs9 xs11))) shapeCasts_S8x256_S8x256⟩,
      ⟨Rect.unit (k0_off2 i) ![8, 256] (inb1 i), shapeCast S8x256 (scaleV (tileQT (midRun.sl.r_35 c i arg1 harg1 arg8 arg9 harg9 arg11 harg11 x0 xs9 xs11))) shapeCasts_S8x256_S8x256⟩,
      ⟨Rect.unit (k0_off1 i) ![8, 256] (inb0 i), shapeCast S8x256 (scaleV (tileQT (midRun.sl.r_23 c i arg1 harg1 arg8 arg9 harg9 arg11 harg11 x0 xs9 xs11))) shapeCasts_S8x256_S8x256⟩] := by sl_kernel_rfl
  rw [h, y0_eq, y1_eq, y2_eq, y3_eq, y4_eq, y5_eq]

theorem sig_list : (midRun (F := F) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.2.1 = [⟨Rect.unit ![0, 0, 0] ![1, 1, 256] inb_S1x1x256_S1x1x256_0_0_0,
    shapeCast S1x1x256 (extractStridedSlice S1x256 ![0, 0] (RS arg1 harg1 arg11 harg11 x0 xs11) slices_S8x256_o0_0_S1x256) shapeCasts_S1x256_S1x1x256⟩] := by
  rw [← r22_eq c i]
  dsimp only [midRun]
  unfold midRun.sl.r_22 k0_pay70
  rfl

end Cert.KernelIdeal.Point

end
-- ==== Proof.V.Block.lean ====
module

public import proofs.«01_k».proof.Proof.V.Cols
public import Idealize.ShloMosaic.Lib.Pointwise
public import Idealize.ShloMosaic.Lib.Pipeline.ValueKit

@[expose] public section

set_option maxRecDepth 65536

noncomputable section

/-! # What a grid point stores, as mathematics -/

namespace Cert.KernelIdeal.Block
open Idealize.ShloMosaic Idealize.ShloMosaic.TcCoe Idealize.ShloMosaic.Tactic Cert.KernelIdeal Cert.KernelIdeal.Gen
open Cert.KernelIdeal.Tile Cert.KernelIdeal.Total Cert.KernelIdeal.Point

variable (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) (x0 : Vec Ideal S256x1408 .bf16) (xs9 : Vec Ideal S1408x128 .f32) (xs10 : Vec Ideal S128x1408 .f32) (xs11 : Vec Ideal S256x256 .bf16) (xs12 : Vec Ideal S256x256 .fp8e4m3) (xs13 : Vec Ideal S8x256 .bf16)
variable (X : ℕ → ℕ → EReal) (G : ℕ → EReal) (n : ℕ)
  (hx : ∀ (t : Fin 256) (d : Fin 1408), x0 (ix2 t d) = X (256 * n + t.val) d.val)
  (hg : ∀ (d : Fin 1408) (l : Fin 128), xs9 (ix2 d l) = G d.val)
  (h11 : ∀ a b : Fin 256, xs11 (ix2 a b) = if b = a then (1 : EReal) else 0)
  (h12 : ∀ a b : Fin 256, xs12 (ix2 a b) = if b = a then (1 : EReal) else 0)
  (h13 : ∀ (a : Fin 8) (b : Fin 256), xs13 (ix2 a b) = if a.val = b.val / 32 then (1 : EReal) else 0)

include h11 in
theorem ldE_apply (a b : Fin 256) : ldE arg11 harg11 xs11 (ix2 a b) = if b = a then (1 : EReal) else 0 := by
  unfold ldE
  rw [View.readAt_eq_ld, Memref.IsWhole.read_unread]
  pointwise
  exact h11 a b
include h11 in
theorem ldE5_apply (a b : Fin 128) : ldE5 arg11 harg11 xs11 (ix2 a b) = if b = a then (1 : EReal) else 0 := by
  unfold ldE5
  rw [View.readAt_eq_ld, Memref.IsWhole.read_unread]
  pointwise
  rw [h11]
  simp only [Fin.ext_iff]
include h12 in
theorem ldI_apply (a b : Fin 256) : ldI arg12 harg12 xs12 (ix2 a b) = if b = a then (1 : EReal) else 0 := by
  unfold ldI
  rw [View.readAt_eq_ld, Memref.IsWhole.read_unread]
  pointwise
  exact h12 a b
include h13 in
theorem ldP_apply (a : Fin 8) (b : Fin 256) : ldP arg13 harg13 xs13 (ix2 a b) = if a.val = b.val / 32 then (1 : EReal) else 0 := by
  unfold ldP
  rw [View.readAt_eq_ld, Memref.IsWhole.read_unread]
  pointwise
  exact h13 a b

include hx in
theorem ldX0_apply (t : Fin 256) (d : Fin 256) : ldX0 arg1 harg1 x0 (ix2 t d) = X (256 * n + t.val) (0 + d.val) := by
  unfold ldX0
  rw [View.readAt_eq_ld, Memref.IsWhole.read_unread]
  pointwise
  rw [hx]
include hg in
theorem ldG0_apply (d : Fin 256) (l : Fin 128) : ldG0 arg9 harg9 xs9 (ix2 d l) = G (0 + d.val) := by
  unfold ldG0
  rw [View.readAt_eq_ld, Memref.IsWhole.read_unread]
  pointwise
  rw [hg]
include hx h11 in
theorem X0_apply (d : Fin 256) (t : Fin 256) : X0 arg1 harg1 arg11 harg11 x0 xs11 (ix2 d t) = X (256 * n + t.val) (0 + d.val) := by
  unfold X0
  rw [tileX_apply _ _ (ldE_apply arg11 harg11 xs11 h11)]
  exact ldX0_apply arg1 harg1 x0 X n hx t d

include hx in
theorem ldX1_apply (t : Fin 256) (d : Fin 256) : ldX1 arg1 harg1 x0 (ix2 t d) = X (256 * n + t.val) (256 + d.val) := by
  unfold ldX1
  rw [View.readAt_eq_ld, Memref.IsWhole.read_unread]
  pointwise
  rw [hx]
include hg in
theorem ldG1_apply (d : Fin 256) (l : Fin 128) : ldG1 arg9 harg9 xs9 (ix2 d l) = G (256 + d.val) := by
  unfold ldG1
  rw [View.readAt_eq_ld, Memref.IsWhole.read_unread]
  pointwise
  rw [hg]
include hx h11 in
theorem X1_apply (d : Fin 256) (t : Fin 256) : X1 arg1 harg1 arg11 harg11 x0 xs11 (ix2 d t) = X (256 * n + t.val) (256 + d.val) := by
  unfold X1
  rw [tileX_apply _ _ (ldE_apply arg11 harg11 xs11 h11)]
  exact ldX1_apply arg1 harg1 x0 X n hx t d

include hx in
theorem ldX2_apply (t : Fin 256) (d : Fin 256) : ldX2 arg1 harg1 x0 (ix2 t d) = X (256 * n + t.val) (512 + d.val) := by
  unfold ldX2
  rw [View.readAt_eq_ld, Memref.IsWhole.read_unread]
  pointwise
  rw [hx]
include hg in
theorem ldG2_apply (d : Fin 256) (l : Fin 128) : ldG2 arg9 harg9 xs9 (ix2 d l) = G (512 + d.val) := by
  unfold ldG2
  rw [View.readAt_eq_ld, Memref.IsWhole.read_unread]
  pointwise
  rw [hg]
include hx h11 in
theorem X2_apply (d : Fin 256) (t : Fin 256) : X2 arg1 harg1 arg11 harg11 x0 xs11 (ix2 d t) = X (256 * n + t.val) (512 + d.val) := by
  unfold X2
  rw [tileX_apply _ _ (ldE_apply arg11 harg11 xs11 h11)]
  exact ldX2_apply arg1 harg1 x0 X n hx t d

include hx in
theorem ldX3_apply (t : Fin 256) (d : Fin 256) : ldX3 arg1 harg1 x0 (ix2 t d) = X (256 * n + t.val) (768 + d.val) := by
  unfold ldX3
  rw [View.readAt_eq_ld, Memref.IsWhole.read_unread]
  pointwise
  rw [hx]
include hg in
theorem ldG3_apply (d : Fin 256) (l : Fin 128) : ldG3 arg9 harg9 xs9 (ix2 d l) = G (768 + d.val) := by
  unfold ldG3
  rw [View.readAt_eq_ld, Memref.IsWhole.read_unread]
  pointwise
  rw [hg]
include hx h11 in
theorem X3_apply (d : Fin 256) (t : Fin 256) : X3 arg1 harg1 arg11 harg11 x0 xs11 (ix2 d t) = X (256 * n + t.val) (768 + d.val) := by
  unfold X3
  rw [tileX_apply _ _ (ldE_apply arg11 harg11 xs11 h11)]
  exact ldX3_apply arg1 harg1 x0 X n hx t d

include hx in
theorem ldX4_apply (t : Fin 256) (d : Fin 256) : ldX4 arg1 harg1 x0 (ix2 t d) = X (256 * n + t.val) (1024 + d.val) := by
  unfold ldX4
  rw [View.readAt_eq_ld, Memref.IsWhole.read_unread]
  pointwise
  rw [hx]
include hg in
theorem ldG4_apply (d : Fin 256) (l : Fin 128) : ldG4 arg9 harg9 xs9 (ix2 d l) = G (1024 + d.val) := by
  unfold ldG4
  rw [View.readAt_eq_ld, Memref.IsWhole.read_unread]
  pointwise
  rw [hg]
include hx h11 in
theorem X4_apply (d : Fin 256) (t : Fin 256) : X4 arg1 harg1 arg11 harg11 x0 xs11 (ix2 d t) = X (256 * n + t.val) (1024 + d.val) := by
  unfold X4
  rw [tileX_apply _ _ (ldE_apply arg11 harg11 xs11 h11)]
  exact ldX4_apply arg1 harg1 x0 X n hx t d

include hx in
theorem ldX5_apply (t : Fin 256) (d : Fin 128) : ldX5 arg1 harg1 x0 (ix2 t d) = X (256 * n + t.val) (1280 + d.val) := by
  unfold ldX5
  rw [View.readAt_eq_ld, Memref.IsWhole.read_unread]
  pointwise
  rw [hx]
include hg in
theorem ldG5_apply (d : Fin 128) (l : Fin 128) : ldG5 arg9 harg9 xs9 (ix2 d l) = G (1280 + d.val) := by
  unfold ldG5
  rw [View.readAt_eq_ld, Memref.IsWhole.read_unread]
  pointwise
  rw [hg]
include hx h11 in
theorem X5_apply (d : Fin 128) (t : Fin 256) : X5 arg1 harg1 arg11 harg11 x0 xs11 (ix2 d t) = X (256 * n + t.val) (1280 + d.val) := by
  unfold X5
  rw [lastX_apply _ _ (ldE5_apply arg11 harg11 xs11 h11)]
  exact ldX5_apply arg1 harg1 x0 X n hx t d

include hx h11 in
/-- Every row of the inverse root mean squares holds that of the block's tokens. -/
theorem RS_apply (a : Fin 8) (t : Fin 256) : RS arg1 harg1 arg11 harg11 x0 xs11 (ix2 a t) = Spec.sig X (256 * n + t.val) := by
  unfold RS
  refine rsg_apply _ X _ a t ?_
  exact total_apply _ _ _ _ _ _ (X (256 * n + t.val)) t a
    (fun r => X0_apply arg1 harg1 arg11 harg11 x0 xs11 X n hx h11 r t) (fun r => X1_apply arg1 harg1 arg11 harg11 x0 xs11 X n hx h11 r t) (fun r => X2_apply arg1 harg1 arg11 harg11 x0 xs11 X n hx h11 r t) (fun r => X3_apply arg1 harg1 arg11 harg11 x0 xs11 X n hx h11 r t) (fun r => X4_apply arg1 harg1 arg11 harg11 x0 xs11 X n hx h11 r t) (fun r => X5_apply arg1 harg1 arg11 harg11 x0 xs11 X n hx h11 r t)

include hx hg h11 in
theorem Y0_apply (d : Fin 256) (t : Fin 256) : Y0 arg1 harg1 arg9 harg9 arg11 harg11 x0 xs9 xs11 (ix2 d t) = Spec.nrm X G (256 * n + t.val) (0 + d.val) := by
  unfold Y0
  rw [tileY_apply _ _ _ d t (Spec.sig X (256 * n + t.val)) (G (0 + d.val)) (fun s => RS_apply arg1 harg1 arg11 harg11 x0 xs11 X n hx h11 s t) (fun l => ldG0_apply arg9 harg9 xs9 G hg d l)]
  rw [X0_apply arg1 harg1 arg11 harg11 x0 xs11 X n hx h11]
  rfl
include hx hg h11 in
theorem Q0_apply (g : Fin 8) (t : Fin 256) (g' : ℕ) (hg' : g' = 0 + g.val) : tileQ (Y0 arg1 harg1 arg9 harg9 arg11 harg11 x0 xs9 xs11) (ix2 g t) = Spec.rq X G g' (256 * n + t.val) := by
  rw [tileQ_apply]
  refine congrArg Spec.gq (funext fun k => ?_)
  rw [Y0_apply arg1 harg1 arg9 harg9 arg11 harg11 x0 xs9 xs11 X G n hx hg h11]
  refine congrArg (Spec.nrm X G _) ?_
  show 0 + (g.val * 32 + k.val) = g' * 32 + k.val
  omega
include hx hg h11 in
theorem QT0_apply (g : Fin 8) (d : Fin 256) (g' d' : ℕ) (hg' : g' = 8 * n + g.val) (hd' : d' = 0 + d.val) : tileQT (Y0 arg1 harg1 arg9 harg9 arg11 harg11 x0 xs9 xs11) (ix2 g d) = Spec.cq X G g' d' := by
  rw [tileQT_apply]
  refine congrArg Spec.gq (funext fun k => ?_)
  rw [Y0_apply arg1 harg1 arg9 harg9 arg11 harg11 x0 xs9 xs11 X G n hx hg h11, hd']
  refine congrArg (fun z => Spec.nrm X G z _) ?_
  show 256 * n + (g.val * 32 + k.val) = g' * 32 + k.val
  omega

include hx hg h11 in
theorem Y1_apply (d : Fin 256) (t : Fin 256) : Y1 arg1 harg1 arg9 harg9 arg11 harg11 x0 xs9 xs11 (ix2 d t) = Spec.nrm X G (256 * n + t.val) (256 + d.val) := by
  unfold Y1
  rw [tileY_apply _ _ _ d t (Spec.sig X (256 * n + t.val)) (G (256 + d.val)) (fun s => RS_apply arg1 harg1 arg11 harg11 x0 xs11 X n hx h11 s t) (fun l => ldG1_apply arg9 harg9 xs9 G hg d l)]
  rw [X1_apply arg1 harg1 arg11 harg11 x0 xs11 X n hx h11]
  rfl
include hx hg h11 in
theorem Q1_apply (g : Fin 8) (t : Fin 256) (g' : ℕ) (hg' : g' = 8 + g.val) : tileQ (Y1 arg1 harg1 arg9 harg9 arg11 harg11 x0 xs9 xs11) (ix2 g t) = Spec.rq X G g' (256 * n + t.val) := by
  rw [tileQ_apply]
  refine congrArg Spec.gq (funext fun k => ?_)
  rw [Y1_apply arg1 harg1 arg9 harg9 arg11 harg11 x0 xs9 xs11 X G n hx hg h11]
  refine congrArg (Spec.nrm X G _) ?_
  show 256 + (g.val * 32 + k.val) = g' * 32 + k.val
  omega
include hx hg h11 in
theorem QT1_apply (g : Fin 8) (d : Fin 256) (g' d' : ℕ) (hg' : g' = 8 * n + g.val) (hd' : d' = 256 + d.val) : tileQT (Y1 arg1 harg1 arg9 harg9 arg11 harg11 x0 xs9 xs11) (ix2 g d) = Spec.cq X G g' d' := by
  rw [tileQT_apply]
  refine congrArg Spec.gq (funext fun k => ?_)
  rw [Y1_apply arg1 harg1 arg9 harg9 arg11 harg11 x0 xs9 xs11 X G n hx hg h11, hd']
  refine congrArg (fun z => Spec.nrm X G z _) ?_
  show 256 * n + (g.val * 32 + k.val) = g' * 32 + k.val
  omega

include hx hg h11 in
theorem Y2_apply (d : Fin 256) (t : Fin 256) : Y2 arg1 harg1 arg9 harg9 arg11 harg11 x0 xs9 xs11 (ix2 d t) = Spec.nrm X G (256 * n + t.val) (512 + d.val) := by
  unfold Y2
  rw [tileY_apply _ _ _ d t (Spec.sig X (256 * n + t.val)) (G (512 + d.val)) (fun s => RS_apply arg1 harg1 arg11 harg11 x0 xs11 X n hx h11 s t) (fun l => ldG2_apply arg9 harg9 xs9 G hg d l)]
  rw [X2_apply arg1 harg1 arg11 harg11 x0 xs11 X n hx h11]
  rfl
include hx hg h11 in
theorem Q2_apply (g : Fin 8) (t : Fin 256) (g' : ℕ) (hg' : g' = 16 + g.val) : tileQ (Y2 arg1 harg1 arg9 harg9 arg11 harg11 x0 xs9 xs11) (ix2 g t) = Spec.rq X G g' (256 * n + t.val) := by
  rw [tileQ_apply]
  refine congrArg Spec.gq (funext fun k => ?_)
  rw [Y2_apply arg1 harg1 arg9 harg9 arg11 harg11 x0 xs9 xs11 X G n hx hg h11]
  refine congrArg (Spec.nrm X G _) ?_
  show 512 + (g.val * 32 + k.val) = g' * 32 + k.val
  omega
include hx hg h11 in
theorem QT2_apply (g : Fin 8) (d : Fin 256) (g' d' : ℕ) (hg' : g' = 8 * n + g.val) (hd' : d' = 512 + d.val) : tileQT (Y2 arg1 harg1 arg9 harg9 arg11 harg11 x0 xs9 xs11) (ix2 g d) = Spec.cq X G g' d' := by
  rw [tileQT_apply]
  refine congrArg Spec.gq (funext fun k => ?_)
  rw [Y2_apply arg1 harg1 arg9 harg9 arg11 harg11 x0 xs9 xs11 X G n hx hg h11, hd']
  refine congrArg (fun z => Spec.nrm X G z _) ?_
  show 256 * n + (g.val * 32 + k.val) = g' * 32 + k.val
  omega

include hx hg h11 in
theorem Y3_apply (d : Fin 256) (t : Fin 256) : Y3 arg1 harg1 arg9 harg9 arg11 harg11 x0 xs9 xs11 (ix2 d t) = Spec.nrm X G (256 * n + t.val) (768 + d.val) := by
  unfold Y3
  rw [tileY_apply _ _ _ d t (Spec.sig X (256 * n + t.val)) (G (768 + d.val)) (fun s => RS_apply arg1 harg1 arg11 harg11 x0 xs11 X n hx h11 s t) (fun l => ldG3_apply arg9 harg9 xs9 G hg d l)]
  rw [X3_apply arg1 harg1 arg11 harg11 x0 xs11 X n hx h11]
  rfl
include hx hg h11 in
theorem Q3_apply (g : Fin 8) (t : Fin 256) (g' : ℕ) (hg' : g' = 24 + g.val) : tileQ (Y3 arg1 harg1 arg9 harg9 arg11 harg11 x0 xs9 xs11) (ix2 g t) = Spec.rq X G g' (256 * n + t.val) := by
  rw [tileQ_apply]
  refine congrArg Spec.gq (funext fun k => ?_)
  rw [Y3_apply arg1 harg1 arg9 harg9 arg11 harg11 x0 xs9 xs11 X G n hx hg h11]
  refine congrArg (Spec.nrm X G _) ?_
  show 768 + (g.val * 32 + k.val) = g' * 32 + k.val
  omega
include hx hg h11 in
theorem QT3_apply (g : Fin 8) (d : Fin 256) (g' d' : ℕ) (hg' : g' = 8 * n + g.val) (hd' : d' = 768 + d.val) : tileQT (Y3 arg1 harg1 arg9 harg9 arg11 harg11 x0 xs9 xs11) (ix2 g d) = Spec.cq X G g' d' := by
  rw [tileQT_apply]
  refine congrArg Spec.gq (funext fun k => ?_)
  rw [Y3_apply arg1 harg1 arg9 harg9 arg11 harg11 x0 xs9 xs11 X G n hx hg h11, hd']
  refine congrArg (fun z => Spec.nrm X G z _) ?_
  show 256 * n + (g.val * 32 + k.val) = g' * 32 + k.val
  omega

include hx hg h11 in
theorem Y4_apply (d : Fin 256) (t : Fin 256) : Y4 arg1 harg1 arg9 harg9 arg11 harg11 x0 xs9 xs11 (ix2 d t) = Spec.nrm X G (256 * n + t.val) (1024 + d.val) := by
  unfold Y4
  rw [tileY_apply _ _ _ d t (Spec.sig X (256 * n + t.val)) (G (1024 + d.val)) (fun s => RS_apply arg1 harg1 arg11 harg11 x0 xs11 X n hx h11 s t) (fun l => ldG4_apply arg9 harg9 xs9 G hg d l)]
  rw [X4_apply arg1 harg1 arg11 harg11 x0 xs11 X n hx h11]
  rfl
include hx hg h11 in
theorem Q4_apply (g : Fin 8) (t : Fin 256) (g' : ℕ) (hg' : g' = 32 + g.val) : tileQ (Y4 arg1 harg1 arg9 harg9 arg11 harg11 x0 xs9 xs11) (ix2 g t) = Spec.rq X G g' (256 * n + t.val) := by
  rw [tileQ_apply]
  refine congrArg Spec.gq (funext fun k => ?_)
  rw [Y4_apply arg1 harg1 arg9 harg9 arg11 harg11 x0 xs9 xs11 X G n hx hg h11]
  refine congrArg (Spec.nrm X G _) ?_
  show 1024 + (g.val * 32 + k.val) = g' * 32 + k.val
  omega
include hx hg h11 in
theorem QT4_apply (g : Fin 8) (d : Fin 256) (g' d' : ℕ) (hg' : g' = 8 * n + g.val) (hd' : d' = 1024 + d.val) : tileQT (Y4 arg1 harg1 arg9 harg9 arg11 harg11 x0 xs9 xs11) (ix2 g d) = Spec.cq X G g' d' := by
  rw [tileQT_apply]
  refine congrArg Spec.gq (funext fun k => ?_)
  rw [Y4_apply arg1 harg1 arg9 harg9 arg11 harg11 x0 xs9 xs11 X G n hx hg h11, hd']
  refine congrArg (fun z => Spec.nrm X G z _) ?_
  show 256 * n + (g.val * 32 + k.val) = g' * 32 + k.val
  omega

include hx hg h11 in
theorem Y5_apply (d : Fin 128) (t : Fin 256) : Y5 arg1 harg1 arg9 harg9 arg11 harg11 x0 xs9 xs11 (ix2 d t) = Spec.nrm X G (256 * n + t.val) (1280 + d.val) := by
  unfold Y5
  rw [lastY_apply _ _ _ d t (Spec.sig X (256 * n + t.val)) (G (1280 + d.val)) (fun s => RS_apply arg1 harg1 arg11 harg11 x0 xs11 X n hx h11 s t) (fun l => ldG5_apply arg9 harg9 xs9 G hg d l)]
  rw [X5_apply arg1 harg1 arg11 harg11 x0 xs11 X n hx h11]
  rfl
include hx hg h11 in
theorem Q5_apply (g : Fin 4) (t : Fin 256) (g' : ℕ) (hg' : g' = 40 + g.val) : lastQ (Y5 arg1 harg1 arg9 harg9 arg11 harg11 x0 xs9 xs11) (ix2 g t) = Spec.rq X G g' (256 * n + t.val) := by
  rw [lastQ_apply]
  refine congrArg Spec.gq (funext fun k => ?_)
  rw [Y5_apply arg1 harg1 arg9 harg9 arg11 harg11 x0 xs9 xs11 X G n hx hg h11]
  refine congrArg (Spec.nrm X G _) ?_
  show 1280 + (g.val * 32 + k.val) = g' * 32 + k.val
  omega
include hx hg h11 in
theorem QT5_apply (g : Fin 8) (d : Fin 128) (g' d' : ℕ) (hg' : g' = 8 * n + g.val) (hd' : d' = 1280 + d.val) : lastQT (Y5 arg1 harg1 arg9 harg9 arg11 harg11 x0 xs9 xs11) (ix2 g d) = Spec.cq X G g' d' := by
  rw [lastQT_apply]
  refine congrArg Spec.gq (funext fun k => ?_)
  rw [Y5_apply arg1 harg1 arg9 harg9 arg11 harg11 x0 xs9 xs11 X G n hx hg h11, hd']
  refine congrArg (fun z => Spec.nrm X G z _) ?_
  show 256 * n + (g.val * 32 + k.val) = g' * 32 + k.val
  omega

include hx hg h11 in
/-- The row scales of the block. -/
theorem rs_apply (g : Fin 44) (t : Fin 256) : View.canon (Val := Elt Ideal) (midRun (F := Ideal) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.1 (ix2 g t) = Expo.scale (Spec.rq X G g.val (256 * n + t.val)) := by
  rw [rs_list]
  canon_tiles x h using View.cover_of_tiledBy _ ![4, 256] (by sl_kernel_rfl) _
  · obtain ⟨p, q, rfl⟩ : ∃ p q, x = ix2 p q := ⟨_, _, eq_ix2 x⟩
    obtain rfl : t = q := Fin.ext h1
    rw [scaleV_apply]
    exact congrArg Expo.scale (Q5_apply arg1 harg1 arg9 harg9 arg11 harg11 x0 xs9 xs11 X G n hx hg h11 p t _ h0)
  · obtain ⟨p, q, rfl⟩ : ∃ p q, x = ix2 p q := ⟨_, _, eq_ix2 x⟩
    obtain rfl : t = q := Fin.ext h1
    rw [scaleV_apply]
    exact congrArg Expo.scale (Q4_apply arg1 harg1 arg9 harg9 arg11 harg11 x0 xs9 xs11 X G n hx hg h11 p t _ h0)
  · obtain ⟨p, q, rfl⟩ : ∃ p q, x = ix2 p q := ⟨_, _, eq_ix2 x⟩
    obtain rfl : t = q := Fin.ext h1
    rw [scaleV_apply]
    exact congrArg Expo.scale (Q3_apply arg1 harg1 arg9 harg9 arg11 harg11 x0 xs9 xs11 X G n hx hg h11 p t _ h0)
  · obtain ⟨p, q, rfl⟩ : ∃ p q, x = ix2 p q := ⟨_, _, eq_ix2 x⟩
    obtain rfl : t = q := Fin.ext h1
    rw [scaleV_apply]
    exact congrArg Expo.scale (Q2_apply arg1 harg1 arg9 harg9 arg11 harg11 x0 xs9 xs11 X G n hx hg h11 p t _ h0)
  · obtain ⟨p, q, rfl⟩ : ∃ p q, x = ix2 p q := ⟨_, _, eq_ix2 x⟩
    obtain rfl : t = q := Fin.ext h1
    rw [scaleV_apply]
    exact congrArg Expo.scale (Q1_apply arg1 harg1 arg9 harg9 arg11 harg11 x0 xs9 xs11 X G n hx hg h11 p t _ h0)
  · obtain ⟨p, q, rfl⟩ : ∃ p q, x = ix2 p q := ⟨_, _, eq_ix2 x⟩
    obtain rfl : t = q := Fin.ext h1
    rw [scaleV_apply]
    exact congrArg Expo.scale (Q0_apply arg1 harg1 arg9 harg9 arg11 harg11 x0 xs9 xs11 X G n hx hg h11 p t _ (h0.trans (Nat.zero_add _).symm))

include hx hg h11 h12 in
/-- The row codes of the block. -/
theorem rc_apply (t : Fin 256) (d : Fin 1408) : View.canon (Val := Elt Ideal) (midRun (F := Ideal) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).1 (ix2 t d) = Spec.clip (Spec.nrm X G (256 * n + t.val) d.val * Expo.inv (Spec.rq X G (d.val / 32) (256 * n + t.val))) := by
  rw [rc_list]
  canon_tiles x h using View.cover_of_tiledBy _ ![256, 128] (by sl_kernel_rfl) _
  · obtain ⟨p, q, rfl⟩ : ∃ p q, x = ix2 p q := ⟨_, _, eq_ix2 x⟩
    obtain rfl : t = p := Fin.ext h0
    have hd : d.val = 1280 + q.val := h1
    rw [lastR_apply _ _ (ldI_apply arg12 harg12 xs12 h12), Y5_apply arg1 harg1 arg9 harg9 arg11 harg11 x0 xs9 xs11 X G n hx hg h11, hd]
    rw [Q5_apply arg1 harg1 arg9 harg9 arg11 harg11 x0 xs9 xs11 X G n hx hg h11 _ t ((1280 + q.val) / 32) (by show (1280 + q.val) / 32 = 40 + q.val / 32; omega)]
  · obtain ⟨p, q, rfl⟩ : ∃ p q, x = ix2 p q := ⟨_, _, eq_ix2 x⟩
    obtain rfl : t = p := Fin.ext h0
    have hd : d.val = 1024 + q.val := h1
    rw [tileR_apply _ _ (ldI_apply arg12 harg12 xs12 h12), Y4_apply arg1 harg1 arg9 harg9 arg11 harg11 x0 xs9 xs11 X G n hx hg h11, hd]
    rw [Q4_apply arg1 harg1 arg9 harg9 arg11 harg11 x0 xs9 xs11 X G n hx hg h11 _ t ((1024 + q.val) / 32) (by show (1024 + q.val) / 32 = 32 + q.val / 32; omega)]
  · obtain ⟨p, q, rfl⟩ : ∃ p q, x = ix2 p q := ⟨_, _, eq_ix2 x⟩
    obtain rfl : t = p := Fin.ext h0
    have hd : d.val = 768 + q.val := h1
    rw [tileR_apply _ _ (ldI_apply arg12 harg12 xs12 h12), Y3_apply arg1 harg1 arg9 harg9 arg11 harg11 x0 xs9 xs11 X G n hx hg h11, hd]
    rw [Q3_apply arg1 harg1 arg9 harg9 arg11 harg11 x0 xs9 xs11 X G n hx hg h11 _ t ((768 + q.val) / 32) (by show (768 + q.val) / 32 = 24 + q.val / 32; omega)]
  · obtain ⟨p, q, rfl⟩ : ∃ p q, x = ix2 p q := ⟨_, _, eq_ix2 x⟩
    obtain rfl : t = p := Fin.ext h0
    have hd : d.val = 512 + q.val := h1
    rw [tileR_apply _ _ (ldI_apply arg12 harg12 xs12 h12), Y2_apply arg1 harg1 arg9 harg9 arg11 harg11 x0 xs9 xs11 X G n hx hg h11, hd]
    rw [Q2_apply arg1 harg1 arg9 harg9 arg11 harg11 x0 xs9 xs11 X G n hx hg h11 _ t ((512 + q.val) / 32) (by show (512 + q.val) / 32 = 16 + q.val / 32; omega)]
  · obtain ⟨p, q, rfl⟩ : ∃ p q, x = ix2 p q := ⟨_, _, eq_ix2 x⟩
    obtain rfl : t = p := Fin.ext h0
    have hd : d.val = 256 + q.val := h1
    rw [tileR_apply _ _ (ldI_apply arg12 harg12 xs12 h12), Y1_apply arg1 harg1 arg9 harg9 arg11 harg11 x0 xs9 xs11 X G n hx hg h11, hd]
    rw [Q1_apply arg1 harg1 arg9 harg9 arg11 harg11 x0 xs9 xs11 X G n hx hg h11 _ t ((256 + q.val) / 32) (by show (256 + q.val) / 32 = 8 + q.val / 32; omega)]
  · obtain ⟨p, q, rfl⟩ : ∃ p q, x = ix2 p q := ⟨_, _, eq_ix2 x⟩
    obtain rfl : t = p := Fin.ext h0
    have hd : d.val = 0 + q.val := h1.trans (Nat.zero_add _).symm
    rw [tileR_apply _ _ (ldI_apply arg12 harg12 xs12 h12), Y0_apply arg1 harg1 arg9 harg9 arg11 harg11 x0 xs9 xs11 X G n hx hg h11, hd]
    rw [Q0_apply arg1 harg1 arg9 harg9 arg11 harg11 x0 xs9 xs11 X G n hx hg h11 _ t ((0 + q.val) / 32) (by show (0 + q.val) / 32 = 0 + q.val / 32; omega)]

include hx hg h11 h13 in
/-- The column codes of the block. -/
theorem cc_apply (d : Fin 1408) (t : Fin 256) : View.canon (Val := Elt Ideal) (midRun (F := Ideal) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.1 (ix2 d t) = Spec.clip (Spec.nrm X G (256 * n + t.val) d.val * Expo.inv (Spec.cq X G ((256 * n + t.val) / 32) d.val)) := by
  rw [cc_list]
  canon_tiles x h using View.cover_of_tiledBy _ ![128, 256] (by sl_kernel_rfl) _
  · obtain ⟨p, q, rfl⟩ : ∃ p q, x = ix2 p q := ⟨_, _, eq_ix2 x⟩
    obtain rfl : t = q := Fin.ext h1
    have hd : d.val = 1280 + p.val := h0
    rw [lastC_apply _ _ (ldP_apply arg13 harg13 xs13 h13), Y5_apply arg1 harg1 arg9 harg9 arg11 harg11 x0 xs9 xs11 X G n hx hg h11]
    rw [QT5_apply arg1 harg1 arg9 harg9 arg11 harg11 x0 xs9 xs11 X G n hx hg h11 _ p ((256 * n + t.val) / 32) d.val (by show (256 * n + t.val) / 32 = 8 * n + t.val / 32; omega) hd, hd]
  · obtain ⟨p, q, rfl⟩ : ∃ p q, x = ix2 p q := ⟨_, _, eq_ix2 x⟩
    obtain rfl : t = q := Fin.ext h1
    have hd : d.val = 1024 + p.val := h0
    rw [tileC_apply _ _ (ldP_apply arg13 harg13 xs13 h13), Y4_apply arg1 harg1 arg9 harg9 arg11 harg11 x0 xs9 xs11 X G n hx hg h11]
    rw [QT4_apply arg1 harg1 arg9 harg9 arg11 harg11 x0 xs9 xs11 X G n hx hg h11 _ p ((256 * n + t.val) / 32) d.val (by show (256 * n + t.val) / 32 = 8 * n + t.val / 32; omega) hd, hd]
  · obtain ⟨p, q, rfl⟩ : ∃ p q, x = ix2 p q := ⟨_, _, eq_ix2 x⟩
    obtain rfl : t = q := Fin.ext h1
    have hd : d.val = 768 + p.val := h0
    rw [tileC_apply _ _ (ldP_apply arg13 harg13 xs13 h13), Y3_apply arg1 harg1 arg9 harg9 arg11 harg11 x0 xs9 xs11 X G n hx hg h11]
    rw [QT3_apply arg1 harg1 arg9 harg9 arg11 harg11 x0 xs9 xs11 X G n hx hg h11 _ p ((256 * n + t.val) / 32) d.val (by show (256 * n + t.val) / 32 = 8 * n + t.val / 32; omega) hd, hd]
  · obtain ⟨p, q, rfl⟩ : ∃ p q, x = ix2 p q := ⟨_, _, eq_ix2 x⟩
    obtain rfl : t = q := Fin.ext h1
    have hd : d.val = 512 + p.val := h0
    rw [tileC_apply _ _ (ldP_apply arg13 harg13 xs13 h13), Y2_apply arg1 harg1 arg9 harg9 arg11 harg11 x0 xs9 xs11 X G n hx hg h11]
    rw [QT2_apply arg1 harg1 arg9 harg9 arg11 harg11 x0 xs9 xs11 X G n hx hg h11 _ p ((256 * n + t.val) / 32) d.val (by show (256 * n + t.val) / 32 = 8 * n + t.val / 32; omega) hd, hd]
  · obtain ⟨p, q, rfl⟩ : ∃ p q, x = ix2 p q := ⟨_, _, eq_ix2 x⟩
    obtain rfl : t = q := Fin.ext h1
    have hd : d.val = 256 + p.val := h0
    rw [tileC_apply _ _ (ldP_apply arg13 harg13 xs13 h13), Y1_apply arg1 harg1 arg9 harg9 arg11 harg11 x0 xs9 xs11 X G n hx hg h11]
    rw [QT1_apply arg1 harg1 arg9 harg9 arg11 harg11 x0 xs9 xs11 X G n hx hg h11 _ p ((256 * n + t.val) / 32) d.val (by show (256 * n + t.val) / 32 = 8 * n + t.val / 32; omega) hd, hd]
  · obtain ⟨p, q, rfl⟩ : ∃ p q, x = ix2 p q := ⟨_, _, eq_ix2 x⟩
    obtain rfl : t = q := Fin.ext h1
    have hd : d.val = 0 + p.val := h0.trans (Nat.zero_add _).symm
    rw [tileC_apply _ _ (ldP_apply arg13 harg13 xs13 h13), Y0_apply arg1 harg1 arg9 harg9 arg11 harg11 x0 xs9 xs11 X G n hx hg h11]
    rw [QT0_apply arg1 harg1 arg9 harg9 arg11 harg11 x0 xs9 xs11 X G n hx hg h11 _ p ((256 * n + t.val) / 32) d.val (by show (256 * n + t.val) / 32 = 8 * n + t.val / 32; omega) hd, hd]
include hx hg h11 in
/-- The column scales of the block, in the eight rows of the scratch that are the block's. -/
theorem col_apply (hi : (i 0).val = n) (r : Fin 128) (g : ℕ) (hr : r.val = 8 * (n % 16) + g) (hlt : g < 8) (d : Fin 1408) : View.canon (Val := Elt Ideal) (midRun (F := Ideal) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.2.2.1 (ix2 r d) = Expo.scale (Spec.cq X G (8 * n + g) d.val) := by
  refine View.canon_eq_of_allAt _ _ _ ((col_mem_gen c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13 (ix2 r d)).mpr ?_) ?_
  · rw [hi]
    show 8 * (n % 16) ≤ r.val ∧ r.val < 8 * (n % 16) + 8
    omega
  rw [col_list]
  unfold View.AllAt
  simp only [List.forall_mem_cons, List.not_mem_nil, false_imp_iff, implies_true, and_true]
  refine ⟨?_, ?_, ?_, ?_, ?_, ?_⟩
  · intro x e
    obtain ⟨p, q, rfl⟩ : ∃ p q, x = ix2 p q := ⟨_, _, eq_ix2 x⟩
    have e0 : k0_off6 i 0 + p.val = r.val := (Rect.idx_unit_val _ _ _ _ 0).symm.trans (congrArg (fun z => (z 0).val) e)
    have e1 : k0_off6 i 1 + q.val = d.val := (Rect.idx_unit_val _ _ _ _ 1).symm.trans (congrArg (fun z => (z 1).val) e)
    rw [off6_eq, hi] at e0 e1
    change 8 * (n % 16) + p.val = r.val at e0
    change 1280 + q.val = d.val at e1
    show shapeCast _ (scaleV _) _ (ix2 p q) = _
    rw [shapeCast_self, scaleV_apply]
    exact congrArg Expo.scale (QT5_apply arg1 harg1 arg9 harg9 arg11 harg11 x0 xs9 xs11 X G n hx hg h11 p q _ _ (by omega) e1.symm)
  · intro x e
    obtain ⟨p, q, rfl⟩ : ∃ p q, x = ix2 p q := ⟨_, _, eq_ix2 x⟩
    have e0 : k0_off5 i 0 + p.val = r.val := (Rect.idx_unit_val _ _ _ _ 0).symm.trans (congrArg (fun z => (z 0).val) e)
    have e1 : k0_off5 i 1 + q.val = d.val := (Rect.idx_unit_val _ _ _ _ 1).symm.trans (congrArg (fun z => (z 1).val) e)
    rw [off5_eq, hi] at e0 e1
    change 8 * (n % 16) + p.val = r.val at e0
    change 1024 + q.val = d.val at e1
    show shapeCast _ (scaleV _) _ (ix2 p q) = _
    rw [shapeCast_self, scaleV_apply]
    exact congrArg Expo.scale (QT4_apply arg1 harg1 arg9 harg9 arg11 harg11 x0 xs9 xs11 X G n hx hg h11 p q _ _ (by omega) e1.symm)
  · intro x e
    obtain ⟨p, q, rfl⟩ : ∃ p q, x = ix2 p q := ⟨_, _, eq_ix2 x⟩
    have e0 : k0_off4 i 0 + p.val = r.val := (Rect.idx_unit_val _ _ _ _ 0).symm.trans (congrArg (fun z => (z 0).val) e)
    have e1 : k0_off4 i 1 + q.val = d.val := (Rect.idx_unit_val _ _ _ _ 1).symm.trans (congrArg (fun z => (z 1).val) e)
    rw [off4_eq, hi] at e0 e1
    change 8 * (n % 16) + p.val = r.val at e0
    change 768 + q.val = d.val at e1
    show shapeCast _ (scaleV _) _ (ix2 p q) = _
    rw [shapeCast_self, scaleV_apply]
    exact congrArg Expo.scale (QT3_apply arg1 harg1 arg9 harg9 arg11 harg11 x0 xs9 xs11 X G n hx hg h11 p q _ _ (by omega) e1.symm)
  · intro x e
    obtain ⟨p, q, rfl⟩ : ∃ p q, x = ix2 p q := ⟨_, _, eq_ix2 x⟩
    have e0 : k0_off3 i 0 + p.val = r.val := (Rect.idx_unit_val _ _ _ _ 0).symm.trans (congrArg (fun z => (z 0).val) e)
    have e1 : k0_off3 i 1 + q.val = d.val := (Rect.idx_unit_val _ _ _ _ 1).symm.trans (congrArg (fun z => (z 1).val) e)
    rw [off3_eq, hi] at e0 e1
    change 8 * (n % 16) + p.val = r.val at e0
    change 512 + q.val = d.val at e1
    show shapeCast _ (scaleV _) _ (ix2 p q) = _
    rw [shapeCast_self, scaleV_apply]
    exact congrArg Expo.scale (QT2_apply arg1 harg1 arg9 harg9 arg11 harg11 x0 xs9 xs11 X G n hx hg h11 p q _ _ (by omega) e1.symm)
  · intro x e
    obtain ⟨p, q, rfl⟩ : ∃ p q, x = ix2 p q := ⟨_, _, eq_ix2 x⟩
    have e0 : k0_off2 i 0 + p.val = r.val := (Rect.idx_unit_val _ _ _ _ 0).symm.trans (congrArg (fun z => (z 0).val) e)
    have e1 : k0_off2 i 1 + q.val = d.val := (Rect.idx_unit_val _ _ _ _ 1).symm.trans (congrArg (fun z => (z 1).val) e)
    rw [off2_eq, hi] at e0 e1
    change 8 * (n % 16) + p.val = r.val at e0
    change 256 + q.val = d.val at e1
    show shapeCast _ (scaleV _) _ (ix2 p q) = _
    rw [shapeCast_self, scaleV_apply]
    exact congrArg Expo.scale (QT1_apply arg1 harg1 arg9 harg9 arg11 harg11 x0 xs9 xs11 X G n hx hg h11 p q _ _ (by omega) e1.symm)
  · intro x e
    obtain ⟨p, q, rfl⟩ : ∃ p q, x = ix2 p q := ⟨_, _, eq_ix2 x⟩
    have e0 : k0_off1 i 0 + p.val = r.val := (Rect.idx_unit_val _ _ _ _ 0).symm.trans (congrArg (fun z => (z 0).val) e)
    have e1 : k0_off1 i 1 + q.val = d.val := (Rect.idx_unit_val _ _ _ _ 1).symm.trans (congrArg (fun z => (z 1).val) e)
    rw [off1_eq, hi] at e0 e1
    change 8 * (n % 16) + p.val = r.val at e0
    change 0 + q.val = d.val at e1
    show shapeCast _ (scaleV _) _ (ix2 p q) = _
    rw [shapeCast_self, scaleV_apply]
    exact congrArg Expo.scale (QT0_apply arg1 harg1 arg9 harg9 arg11 harg11 x0 xs9 xs11 X G n hx hg h11 p q _ _ (by omega) e1.symm)

include hx h11 in
/-- The inverse root mean squares of the block. -/
theorem sig_apply (a b : Fin 1) (t : Fin 256) : View.canon (Val := Elt Ideal) (midRun (F := Ideal) c i arg1 harg1 arg2 harg2 arg3 harg3 arg4 harg4 arg5 harg5 arg6 harg6 arg7 harg7 arg8 harg8 arg9 harg9 arg10 harg10 arg11 harg11 arg12 harg12 arg13 harg13 x0 xs9 xs10 xs11 xs12 xs13).2.2.2.1 (ix3 a b t) = Spec.sig X (256 * n + t.val) := by
  rw [sig_list, View.canon_cons_unit_lit _ _ _ (by decide)]
  pointwise
  exact RS_apply arg1 harg1 arg11 harg11 x0 xs11 X n hx h11 0 t

end Cert.KernelIdeal.Block
end
-- ==== Proof.V.Tables.lean ====
module

public import proofs.«01_k».proof.Proof.W.Outs
public import Idealize.ShloMosaic.Lib.Pointwise
public import Idealize.ShloMosaic.Lib.Pipeline.ValueKit

@[expose] public section

set_option maxRecDepth 65536

noncomputable section

/-! # The four fixed tables: the weights along columns, two identities, and the table that repeats a group's scale -/

namespace Cert.KernelIdeal.Tables
open Idealize.ShloMosaic Idealize.ShloMosaic.TcCoe Idealize.ShloMosaic.Tactic Cert.KernelIdeal Cert.KernelIdeal.Gen

variable (m : (ℓ : Loc nD τ sig) → Buf (Elt Ideal) ℓ) (c : Dev nD)

theorem cond5 : ∀ i : Fin 8, ∀ j : Fin 256, (IntOp.cmpi CmpIPredicate.eq
        (Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 j.val) 32#32) 0#32))
          (IntOp.subi (IntOp.divsi ArithUnit.vector (BitVec.ofNat 32 j.val) 32#32) 1#32)
          (IntOp.divsi ArithUnit.vector (BitVec.ofNat 32 j.val) 32#32))
        (BitVec.ofNat 32 i.val)) = if i.val = j.val / 32 then 1#1 else 0#1 := by decide +kernel

theorem pay5_apply (i j : Fin 256) : (k0_pay5 (F := Ideal)) (ix2 i j) = if j = i then (1 : EReal) else 0 := by
  pointwise [k0_pay5, k0_pay4]
  have h : IntOp.cmpi CmpIPredicate.eq (BitVec.ofNat 32 i.val) (BitVec.ofNat 32 j.val) = if j = i then 1#1 else 0#1 := by
    by_cases hij : j = i
    · subst hij
      simp [IntOp.cmpi]
    · have hne : BitVec.ofNat 32 i.val ≠ BitVec.ofNat 32 j.val := fun e => hij (by
        have e' := congrArg BitVec.toNat e
        simp only [BitVec.toNat_ofNat] at e'
        exact Fin.ext (by omega))
      rw [if_neg hij]
      show BitVec.ofBool (BitVec.ofNat 32 i.val == BitVec.ofNat 32 j.val) = 0#1
      rw [beq_eq_false_iff_ne.mpr hne]
      rfl
  rw [h]
  split <;> rfl
theorem pay6_apply (i j : Fin 256) : (k0_pay6 (F := Ideal)) (ix2 i j) = if j = i then (1 : EReal) else 0 :=
  pay5_apply i j
theorem pay10_apply (i : Fin 8) (j : Fin 256) : (k0_pay10 k0_pay7 (k0_pay8 (F := Ideal)) k0_pay9) (ix2 i j) = if i.val = j.val / 32 then (1 : EReal) else 0 := by
  pointwise [k0_pay10, k0_pay7, k0_pay8, k0_pay9]
  rw [cond5]
  split <;> rfl

/-- The weights, as the initialisation loads them. -/
theorem gam_apply (m1 : Memref sig .tc .vmem S1x1408 .bf16) (h1 : m1.IsWhole) (g : Vec Ideal S1x1408 .bf16) (d : Fin 1408) :
    (View.readAt (Elt Ideal) m1.view (Rect.unit ![0,0] ![1,1408] inb_S1x1408_S1x1408_0_0).toLoadRect (h1.unread g) :) (ix2 0 d) = g (ix2 0 d) := by
  rw [View.readAt_eq_ld, Memref.IsWhole.read_unread]
  pointwise

theorem tab3_apply (i j : Fin 256) : tab3 m c (ix2 i j) = if j = i then (1 : EReal) else 0 := by
  unfold tab3
  dsimp only [initAt, initRun]
  rw [View.canon_cons_unit_lit _ _ _ (by decide)]
  exact pay5_apply i j
theorem tab4_apply (i j : Fin 256) : tab4 m c (ix2 i j) = if j = i then (1 : EReal) else 0 := by
  unfold tab4
  dsimp only [initAt, initRun]
  rw [View.canon_cons_unit_lit _ _ _ (by decide)]
  exact pay6_apply i j
theorem tab5_apply (i : Fin 8) (j : Fin 256) : tab5 m c (ix2 i j) = if i.val = j.val / 32 then (1 : EReal) else 0 := by
  unfold tab5
  dsimp only [initAt, initRun]
  rw [View.canon_cons_unit_lit _ _ _ (by decide)]
  exact pay10_apply i j

theorem tab1_gen (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) (hc0 : cond0_0 i) (x1 : Vec Ideal S1x1408 .bf16) (d : Fin 1408) (l : Fin 128) :
    View.canon (Val := Elt Ideal) (initRun (F := Ideal) c i arg1 harg1 arg2 harg2 arg3 harg3 arg4 harg4 arg5 harg5 arg6 harg6 arg7 harg7 arg8 harg8 arg9 harg9 arg10 harg10 arg11 harg11 arg12 harg12 arg13 harg13 hc0 x1).1 (ix2 d l) = x1 (ix2 0 d) := by
  dsimp only [initRun]
  canon_tiles x h
  all_goals
    obtain ⟨p, q, rfl⟩ : ∃ p q, x = ix2 p q := ⟨_, _, eq_ix2 x⟩
    pointwise [k0_pay12, k0_pay13, k0_pay14, k0_pay15, k0_pay17, k0_pay18, k0_pay19, k0_pay20, k0_pay21, k0_pay22, k0_pay32, initRun.sl.r, initRun.sl.r_1, initRun.sl.r_2, k0_pay11, k0_pay16, k0_pay23]
    rw [gam_apply]
    refine congrArg x1 (congrArg (ix2 0) (Fin.ext ?_))
    exact h0.symm

theorem tab1_apply (d : Fin 1408) (l : Fin 128) : tab1 m c (ix2 d l) = iblk m c 1 t00 (ix2 0 d) :=
  tab1_gen c _ _ _ _ _ _ _ _ _ _ _ _ _ _ _ _ _ _ _ _ _ _ _ _ _ _ _ _ _ d l

end Cert.KernelIdeal.Tables
end
-- ==== Proof.V.Arrays.lean ====
module

public import proofs.«01_k».proof.Proof.V.Block
public import proofs.«01_k».proof.Proof.V.Tables
public import proofs.«01_k».proof.Proof.W.Data
public import Idealize.ShloMosaic.Lib.Pointwise
public import Idealize.ShloMosaic.Lib.Pipeline.ValueKit
public import Idealize.ShloMosaic.Lib.Pipeline.ValueKit.Point
public import Idealize.ShloMosaic.Lib.Pipeline.Covers

@[expose] public section

set_option maxRecDepth 65536

noncomputable section

/-! # The arrays that the kernel leaves -/

namespace Cert.KernelIdeal.Arrays
open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The input, a token at a time. -/
def X (x : (⟨S16x4096x1408, .bf16⟩ : BufTy).Contents (Elt Ideal)) (t d : ℕ) : EReal :=
  if h : t < 65536 ∧ d < 1408 then x (ix3 ⟨t / 4096, by omega⟩ ⟨t % 4096, by omega⟩ ⟨d, h.2⟩) else 0
/-- The weights. -/
def G (g : (⟨S1408, .bf16⟩ : BufTy).Contents (Elt Ideal)) (d : ℕ) : EReal := if h : d < 1408 then g (ix1 ⟨d, h⟩) else 0

/-- The input of the run. -/
abbrev xm := m ((c.tc : Thread nD τ).loc main_arg0)
/-- The weights of the run. -/
abbrev gm := m ((c.tc : Thread nD τ).loc main_arg1)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, t.val] := by decide +kernel
theorem idx4 : ∀ t : Fin cfg0.N, win0_4.index t = ![0, t.val] := by decide +kernel
theorem idx5 : ∀ t : Fin cfg0.N, win0_5.index t = ![0, t.val / 16] := by decide +kernel
theorem idx6 : ∀ t : Fin cfg0.N, win0_6.index t = ![t.val, 0, 0] := by decide +kernel

theorem V_x : V m c main_v0 = shapeCast S65536x1408 (xm m c) shapeCasts_S16x4096x1408_S65536x1408 := by
  entry_read
  try rfl
theorem V_g : V m c main_v1 = shapeCast S1x1408 (gm m c) shapeCasts_S1408_S1x1408 := by
  entry_read
  try rfl

theorem cast_x (x : (⟨S16x4096x1408, .bf16⟩ : BufTy).Contents (Elt Ideal)) (n : Fin 65536) (d : Fin 1408) :
    shapeCast S65536x1408 x shapeCasts_S16x4096x1408_S65536x1408 (ix2 n d) = X x n.val d.val := by
  unfold X
  rw [dif_pos ⟨n.isLt, d.isLt⟩]
  pointwise
theorem cast_g (g : (⟨S1408, .bf16⟩ : BufTy).Contents (Elt Ideal)) (d : Fin 1408) :
    shapeCast S1x1408 g shapeCasts_S1408_S1x1408 (ix2 0 d) = G g d.val := by
  unfold G
  rw [dif_pos d.isLt]
  pointwise

theorem emb0 (t : Fin cfg0.N) (r : Fin 256) (d : Fin 1408) (h : 256 * t.val + r.val < 65536) :
    (win0_0.blk t).view.emb (ix2 r d) = (ix2 ⟨256 * t.val + r.val, h⟩ d : S65536x1408.Idx) := by
  blk_ext [idx0 t]
theorem emb1 (t : Fin cfg0.N) (d : Fin 1408) :
    (win0_1.blk t).view.emb (ix2 0 d) = (ix2 0 d : S1x1408.Idx) := by
  blk_ext [idx1 t]

/-- The input's block at a point. -/
theorem x_blk (t : Fin cfg0.N) (r : Fin 256) (d : Fin 1408) : iblk m c 0 t (ix2 r d) = X (xm m c) (256 * t.val + r.val) d.val := by
  have ht : t.val < 256 := Nat.lt_of_lt_of_eq t.isLt N_0
  have h : 256 * t.val + r.val < 65536 := by omega
  have e : iblk m c 0 t (ix2 r d) = V m c main_v0 ((win0_0.blk t).view.emb (ix2 r d)) := rfl
  exact e.trans ((congrArg (V m c main_v0) (emb0 t r d h)).trans ((congrFun (V_x m c) _).trans (cast_x (xm m c) ⟨_, h⟩ d)))
/-- The weights' block at a point. -/
theorem g_blk (t : Fin cfg0.N) (d : Fin 1408) : iblk m c 1 t (ix2 0 d) = G (gm m c) d.val := by
  have e : iblk m c 1 t (ix2 0 d) = V m c main_v1 ((win0_1.blk t).view.emb (ix2 0 d)) := rfl
  exact e.trans ((congrArg (V m c main_v1) (emb1 t d)).trans ((congrFun (V_g m c) _).trans (cast_g (gm m c) d)))

/-- The weights' table. -/
theorem tab1_G (d : Fin 1408) (l : Fin 128) : tab1 m c (ix2 d l) = G (gm m c) d.val := (Tables.tab1_apply m c d l).trans (g_blk m c t00 d)

/-- A point's row codes. -/
theorem out2_apply (t : Fin cfg0.N) (r : Fin 256) (d : Fin 1408) : out2 m c t (ix2 r d) = Spec.clip (Spec.nrm (X (xm m c)) (G (gm m c)) (256 * t.val + r.val) d.val * Expo.inv (Spec.rq (X (xm m c)) (G (gm m c)) (d.val / 32) (256 * t.val + r.val))) :=
  Block.rc_apply (X := X (xm m c)) (G := G (gm m c)) (n := t.val) (hx := x_blk m c t) (hg := tab1_G m c) (h11 := Tables.tab3_apply m c) (h12 := Tables.tab4_apply m c) (t := r) (d := d) ..
/-- A point's row scales. -/
theorem out3_apply (t : Fin cfg0.N) (g : Fin 44) (r : Fin 256) : out3 m c t (ix2 g r) = Expo.scale (Spec.rq (X (xm m c)) (G (gm m c)) g.val (256 * t.val + r.val)) :=
  Block.rs_apply (X := X (xm m c)) (G := G (gm m c)) (n := t.val) (hx := x_blk m c t) (hg := tab1_G m c) (h11 := Tables.tab3_apply m c) (t := r) (g := g) ..
/-- A point's column codes. -/
theorem out4_apply (t : Fin cfg0.N) (d : Fin 1408) (r : Fin 256) : out4 m c t (ix2 d r) = Spec.clip (Spec.nrm (X (xm m c)) (G (gm m c)) (256 * t.val + r.val) d.val * Expo.inv (Spec.cq (X (xm m c)) (G (gm m c)) ((256 * t.val + r.val) / 32) d.val)) :=
  Block.cc_apply (X := X (xm m c)) (G := G (gm m c)) (n := t.val) (hx := x_blk m c t) (hg := tab1_G m c) (h11 := Tables.tab3_apply m c) (h13 := Tables.tab5_apply m c) (t := r) (d := d) ..
/-- A point's inverse root mean squares. -/
theorem out6_apply (t : Fin cfg0.N) (a b : Fin 1) (r : Fin 256) : out6 m c t (ix3 a b r) = Spec.sig (X (xm m c)) (256 * t.val + r.val) :=
  Block.sig_apply (X := X (xm m c)) (n := t.val) (hx := x_blk m c t) (h11 := Tables.tab3_apply m c) (t := r) (a := a) (b := b) ..
/-- A point's column scales, in its eight rows of the scratch. -/
theorem col_apply (t : Fin cfg0.N) (r : Fin 128) (g : ℕ) (hr : r.val = 8 * (t.val % 16) + g) (hg : g < 8) (d : Fin 1408) : col m c t (ix2 r d) = Expo.scale (Spec.cq (X (xm m c)) (G (gm m c)) (8 * t.val + g) d.val) :=
  Block.col_apply (X := X (xm m c)) (G := G (gm m c)) (n := t.val) (hx := x_blk m c t) (hg := tab1_G m c) (h11 := Tables.tab3_apply m c) (hi := coords_val t) (r := r) (hr := hr) (hlt := hg) (d := d) ..

/-- Window 2's array: the row codes. -/
theorem arr2 : (dats m 0 c).arrAt 2 cfg0.N = (fun y => Spec.clip (Spec.nrm (X (xm m c)) (G (gm m c)) (y 0).val (y 1).val * Expo.inv (Spec.rq (X (xm m c)) (G (gm m c)) ((y 1).val / 32) (y 0).val)) : S65536x1408.Idx → EReal) := by
  refine (dats m 0 c).arrAt_eq_of_covers 2 _ (by decide +kernel) fun t hf y => ?_
  obtain ⟨r, d, rfl⟩ : ∃ (r : Fin 256) (d : Fin 1408), y = ix2 r d := ⟨_, _, eq_ix2 y⟩
  blk_simp [idx2 t]
  rw [after0_2, Nat.mul_comm t.val 256]
  exact out2_apply m c t r d
/-- Window 3's array: the row scales, a group of channels a row. -/
theorem arr3 : (dats m 0 c).arrAt 3 cfg0.N = (fun y => Expo.scale (Spec.rq (X (xm m c)) (G (gm m c)) (y 0).val (y 1).val) : S44x65536.Idx → EReal) := by
  refine (dats m 0 c).arrAt_eq_of_covers 3 _ (by decide +kernel) fun t hf y => ?_
  obtain ⟨r, d, rfl⟩ : ∃ (r : Fin 44) (d : Fin 256), y = ix2 r d := ⟨_, _, eq_ix2 y⟩
  blk_simp [idx3 t]
  rw [after0_3, Nat.mul_comm t.val 256]
  exact out3_apply m c t r d
/-- Window 4's array: the column codes, a channel a row. -/
theorem arr4 : (dats m 0 c).arrAt 4 cfg0.N = (fun y => Spec.clip (Spec.nrm (X (xm m c)) (G (gm m c)) (y 1).val (y 0).val * Expo.inv (Spec.cq (X (xm m c)) (G (gm m c)) ((y 1).val / 32) (y 0).val)) : S1408x65536.Idx → EReal) := by
  refine (dats m 0 c).arrAt_eq_of_covers 4 _ (by decide +kernel) fun t hf y => ?_
  obtain ⟨d, r, rfl⟩ : ∃ (d : Fin 1408) (r : Fin 256), y = ix2 d r := ⟨_, _, eq_ix2 y⟩
  blk_simp [idx4 t]
  rw [after0_4, Nat.mul_comm t.val 256]
  exact out4_apply m c t d r
/-- Window 6's array: the inverse root mean squares, a point a slice. -/
theorem arr6 : (dats m 0 c).arrAt 6 cfg0.N = (fun y => Spec.sig (X (xm m c)) (256 * (y 0).val + (y 2).val) : S256x1x256.Idx → EReal) := by
  refine (dats m 0 c).arrAt_eq_of_covers 6 _ (by decide +kernel) fun t hf y => ?_
  obtain ⟨a, b, r, rfl⟩ : ∃ (a b : Fin 1) (r : Fin 256), y = ix3 a b r := ⟨_, _, _, eq_ix3 y⟩
  blk_simp [idx6 t]
  rw [after0_6]
  exact out6_apply m c t a b r
end Cert.KernelIdeal.Arrays
end
-- ==== Proof.V.Bound.lean ====
module

public import proofs.«01_k».proof.Proof.V.Spec

@[expose] public section

noncomputable section

/-! # The bound on a group's scale

A token's normalised values are at most the root of 1408 in magnitude, so that with finite weights a group's greatest magnitude over
448 stays a real below `2 ^ 126`. -/

namespace Cert.KernelIdeal.Spec
open Idealize.ShloMosaic Finset

theorem eps_eq : Ideal.ofBits .f32 0x3727C5AC#32 = (((10995116 : ℝ) * (2 : ℝ) ^ (-40 : ℤ) : ℝ) : EReal) := by
  simp [Ideal.ofBits, Ideal.ieee]
theorem over_eq : Ideal.ofBits .f32 0x3B124925#32 = (((9586981 : ℝ) * (2 : ℝ) ^ (-32 : ℤ) : ℝ) : EReal) := by
  simp [Ideal.ofBits, Ideal.ieee]
theorem bot_eq : Ideal.ofBits .f32 0xFF800000#32 = ⊥ := by simp [Ideal.ofBits, Ideal.ieee]
theorem big_eq : Ideal.ofBits .f32 0x7F7F0000#32 = (((255 : ℝ) * (2 : ℝ) ^ (120 : ℤ) : ℝ) : EReal) := by
  refine (show Ideal.ofBits .f32 0x7F7F0000#32 = (((16711680 : ℝ) * (2 : ℝ) ^ (104 : ℤ) : ℝ) : EReal) by simp [Ideal.ofBits, Ideal.ieee]).trans (congrArg _ ?_)
  norm_num
theorem size_eq : Ideal.ofBits .f32 0x44B00000#32 = ((1408 : ℝ) : EReal) := by
  refine (show Ideal.ofBits .f32 0x44B00000#32 = (((11534336 : ℝ) * (2 : ℝ) ^ (-13 : ℤ) : ℝ) : EReal) by simp [Ideal.ofBits, Ideal.ieee]).trans (congrArg _ ?_)
  norm_num

theorem sq_nonneg' (x : EReal) : 0 ≤ x * x := by
  rcases le_total 0 x with h | h
  · exact mul_nonneg h h
  · simpa using mul_nonneg (EReal.neg_nonneg.mpr h) (EReal.neg_nonneg.mpr h)

/-- A value times its token's inverse root mean square is a real of magnitude at most 38. -/
theorem unit_bound (X : ℕ → ℕ → EReal) (t d : ℕ) (hd : d < 1408) : ∃ r : ℝ, X t d * sig X t = (r : EReal) ∧ |r| ≤ 38 := by
  have hx : X t d * X t d ≤ ssq X t := single_le_sum (f := fun d => X t d * X t d) (fun i _ => sq_nonneg' _) (mem_range.mpr hd)
  have h0 : 0 ≤ ssq X t := sum_nonneg fun i _ => sq_nonneg' _
  unfold sig
  generalize ssq X t = s at hx h0
  generalize X t d = x at hx
  rw [eps_eq]
  have he : (0 : ℝ) < (10995116 : ℝ) * (2 : ℝ) ^ (-40 : ℤ) := by positivity
  generalize (10995116 : ℝ) * (2 : ℝ) ^ (-40 : ℤ) = e at he
  induction s with
  | bot => simp at h0
  | top =>
    refine ⟨0, ?_, by simp⟩
    rw [EReal.top_mul_coe_of_pos (by norm_num), EReal.top_add_coe]
    show x * 0 = _
    simp
  | coe s =>
    induction x with
    | bot => simp at hx
    | top => simp at hx
    | coe x =>
      have hs : 0 ≤ s := by exact_mod_cast h0
      have hxs : x * x ≤ s := by exact_mod_cast hx
      have hp : 0 < s * (1 / 1408) + e := by positivity
      rw [← EReal.coe_mul, ← EReal.coe_add]
      refine ⟨x * (Real.sqrt (s * (1 / 1408) + e))⁻¹, ?_, ?_⟩
      · rw [EReal.coe_mul]
        refine congrArg _ ?_
        show (if s * (1 / 1408) + e < 0 then (⊥ : EReal) else if s * (1 / 1408) + e = 0 then ⊤ else ((Real.sqrt (s * (1 / 1408) + e))⁻¹ : ℝ)) = _
        rw [if_neg (not_lt.mpr hp.le), if_neg hp.ne']
      · rw [abs_mul, abs_inv, abs_of_nonneg (Real.sqrt_nonneg _), ← div_eq_mul_inv, div_le_iff₀ (Real.sqrt_pos.mpr hp)]
        refine abs_le_of_sq_le_sq ?_ (by positivity)
        rw [mul_pow, Real.sq_sqrt hp.le]
        nlinarith

/-- The bound on the weights, as the condition states it. -/
def Bounded (G : ℕ → EReal) : Prop := ∀ d, max (G d) (-(G d)) ≤ Ideal.ofBits .f32 0x7F7F0000#32

theorem nrm_bound (X : ℕ → ℕ → EReal) (G : ℕ → EReal) (hG : Bounded G) (t d : ℕ) (hd : d < 1408) :
    FloatOps.absf (F := Ideal) (φ := .f32) (nrm X G t d) ≤ (((38 : ℝ) * (255 * (2 : ℝ) ^ (120 : ℤ)) : ℝ) : EReal) ∧ 0 ≤ FloatOps.absf (F := Ideal) (φ := .f32) (nrm X G t d) := by
  obtain ⟨r, hr, hr'⟩ := unit_bound X t d hd
  have hg := hG d
  rw [big_eq] at hg
  show max (X t d * sig X t * G d) (-(X t d * sig X t * G d)) ≤ _ ∧ 0 ≤ max (X t d * sig X t * G d) (-(X t d * sig X t * G d))
  rw [hr]
  generalize G d = g at hg
  have hM : (0 : ℝ) ≤ 255 * (2 : ℝ) ^ (120 : ℤ) := by positivity
  generalize (255 * (2 : ℝ) ^ (120 : ℤ)) = M at hg hM
  induction g with
  | bot => simp at hg
  | top => simp at hg
  | coe g =>
    have h1 : g ≤ M := by exact_mod_cast (le_max_left _ _).trans hg
    have h2 : -g ≤ M := by exact_mod_cast (le_max_right _ _).trans hg
    have h3 : |r * g| ≤ 38 * M := by
      rw [abs_mul]
      exact mul_le_mul hr' (abs_le.mpr ⟨by linarith, h1⟩) (abs_nonneg _) (by norm_num)
    rw [← EReal.coe_mul, ← EReal.coe_neg]
    refine ⟨max_le (EReal.coe_le_coe_iff.mpr (abs_le.mp h3).2) (EReal.coe_le_coe_iff.mpr (by linarith [(abs_le.mp h3).1])), ?_⟩
    rcases le_total 0 (r * g) with h | h
    · exact le_max_of_le_left (by exact_mod_cast h)
    · exact le_max_of_le_right (by exact_mod_cast (neg_nonneg.mpr h))

theorem gq_bound (f : Fin 32 → EReal) (B : ℝ) (h : ∀ k, FloatOps.absf (F := Ideal) (φ := .f32) (f k) ≤ (B : EReal) ∧ 0 ≤ FloatOps.absf (F := Ideal) (φ := .f32) (f k)) :
    ∃ r : ℝ, gq f = (r : EReal) ∧ 0 ≤ r ∧ r ≤ B * ((9586981 : ℝ) * (2 : ℝ) ^ (-32 : ℤ)) := by
  have h1 : (univ : Finset (Fin 32)).fold max (Ideal.ofBits .f32 0xFF800000#32) (fun k => FloatOps.absf (F := Ideal) (φ := .f32) (f k)) ≤ (B : EReal) :=
    (fold_max_le _).mpr ⟨by rw [bot_eq]; exact bot_le, fun k _ => (h k).1⟩
  have h2 : 0 ≤ (univ : Finset (Fin 32)).fold max (Ideal.ofBits .f32 0xFF800000#32) (fun k => FloatOps.absf (F := Ideal) (φ := .f32) (f k)) :=
    (le_fold_max _).mpr (.inr ⟨0, mem_univ _, (h 0).2⟩)
  unfold gq
  rw [over_eq]
  generalize ((univ : Finset (Fin 32)).fold max (Ideal.ofBits .f32 0xFF800000#32) (fun k => FloatOps.absf (F := Ideal) (φ := .f32) (f k)) : EReal) = a at h1 h2
  change EReal at a
  induction a with
  | bot => simp at h2
  | top => simp at h1
  | coe a =>
    have ha : 0 ≤ a := by exact_mod_cast h2
    have hb : a ≤ B := by exact_mod_cast h1
    exact ⟨_, (EReal.coe_mul _ _).symm, by positivity, mul_le_mul_of_nonneg_right hb (by positivity)⟩

/-- Under the bound the search and the logarithm agree. -/
theorem scale_gq (f : Fin 32 → EReal) (h : ∀ k, FloatOps.absf (F := Ideal) (φ := .f32) (f k) ≤ (((38 : ℝ) * (255 * (2 : ℝ) ^ (120 : ℤ)) : ℝ) : EReal) ∧ 0 ≤ FloatOps.absf (F := Ideal) (φ := .f32) (f k)) :
    Expo.scale (gq f) = Ideal.pow (Ideal.ofBits .f32 0x40000000#32) (Expo.refE (gq f)) ∧ Expo.inv (gq f) = Ideal.pow (Ideal.ofBits .f32 0x40000000#32) (-(Expo.refE (gq f))) := by
  obtain ⟨r, hr, h0, h1⟩ := gq_bound f _ h
  rw [hr]
  refine Expo.scale_inv r h0 (h1.trans_lt ?_)
  norm_num

theorem scale_rq (X : ℕ → ℕ → EReal) (G : ℕ → EReal) (hG : Bounded G) (g t : ℕ) (hg : g < 44) :
    Expo.scale (rq X G g t) = Ideal.pow (Ideal.ofBits .f32 0x40000000#32) (Expo.refE (rq X G g t)) ∧ Expo.inv (rq X G g t) = Ideal.pow (Ideal.ofBits .f32 0x40000000#32) (-(Expo.refE (rq X G g t))) :=
  scale_gq _ fun k => nrm_bound X G hG _ _ (by omega)

theorem scale_cq (X : ℕ → ℕ → EReal) (G : ℕ → EReal) (hG : Bounded G) (h d : ℕ) (hd : d < 1408) :
    Expo.scale (cq X G h d) = Ideal.pow (Ideal.ofBits .f32 0x40000000#32) (Expo.refE (cq X G h d)) ∧ Expo.inv (cq X G h d) = Ideal.pow (Ideal.ofBits .f32 0x40000000#32) (-(Expo.refE (cq X G h d))) :=
  scale_gq _ fun k => nrm_bound X G hG _ _ hd

end Cert.KernelIdeal.Spec

end
-- ==== Proof.V.Ref.lean ====
module

public import proofs.«01_k».proof.Proof.Gen.ReferenceIdeal.Read
public import proofs.«01_k».proof.Proof.V.Arrays
public import proofs.«01_k».proof.Proof.V.Bound
public import Idealize.ShloMosaic.Lib.Pointwise

@[expose] public section

set_option maxRecDepth 65536

noncomputable section

/-! # The reference, read at an index -/

namespace Cert.ReferenceIdeal.Ref
open Idealize.ShloMosaic Idealize.ShloMosaic.TcCoe Idealize.ShloMosaic.Tactic Cert.ReferenceIdeal Cert.ReferenceIdeal.Gen Cert.ReferenceIdeal.Value Cert.ReferenceIdeal.Read
open Cert.KernelIdeal (Spec.nrm Spec.sig Spec.rq Spec.cq Spec.ssq Spec.gq Spec.clip Spec.size_eq Expo.refE)
open Cert.KernelIdeal.Arrays (X G)

variable (x : (⟨S16x4096x1408, .bf16⟩ : BufTy).Contents (Elt Ideal)) (g : (⟨S1408, .bf16⟩ : BufTy).Contents (Elt Ideal))

/-- The input, flattened. -/
theorem v0_at (i : S65536x1408.Idx) : val_main_v0 (F := Ideal) x i = X x (i 0).val (i 1).val := by
  have h0 : (i 0).val < 65536 := (i 0).isLt
  have h1 : (i 1).val < 1408 := (i 1).isLt
  rw [val_main_v0_apply]
  unfold X
  rw [dif_pos ⟨h0, h1⟩]
  refine congrArg x (funext fun a => Fin.ext ?_)
  match a with
  | ⟨0, _⟩ => show ((i 0).val * 1408 + (i 1).val) / 5767168 = (i 0).val / 4096; omega
  | ⟨1, _⟩ => show ((i 0).val * 1408 + (i 1).val) / 1408 % 4096 = (i 0).val % 4096; omega
  | ⟨2, _⟩ => show ((i 0).val * 1408 + (i 1).val) % 1408 = (i 1).val; omega

theorem v2_at (i : S65536x1408.Idx) : val_main_v2 (F := Ideal) x i = X x (i 0).val (i 1).val * X x (i 0).val (i 1).val := by
  show val_main_v0 (F := Ideal) x i * val_main_v0 (F := Ideal) x i = _
  rw [v0_at]

/-- The inverse root mean square. -/
theorem v8_at (i : S65536.Idx) : val_main_v8 (F := Ideal) x i = Spec.sig (X x) (i 0).val := by
  rw [val_main_v8_apply, val_main_v7_apply, val_main_v6_apply, val_main_v5_apply, val_main_v4_apply, val_main_v3_apply, val_main_cst_apply, val_main_cst_0_apply, val_main_cst_1_apply]
  simp only [v2_at]
  show Ideal.rsqrt (Ideal.div (Ideal.ofBits .f32 0x00000000#32 + ∑ k : Fin 1408, X x (i 0).val k.val * X x (i 0).val k.val) (Ideal.ofBits .f32 0x44B00000#32) + Ideal.ofBits .f32 0x3727C5AC#32) = _
  rw [Spec.size_eq, Ideal.div_coe (by norm_num), Cert.KernelIdeal.Expo.zero_eq, EReal.coe_zero, zero_add]
  unfold Spec.sig Spec.ssq
  rw [Finset.sum_range]

/-- The normalised value. -/
theorem v15_at (i : S65536x1408.Idx) : val_main_v15 (F := Ideal) x g i = Spec.nrm (X x) (G g) (i 0).val (i 1).val := by
  have h1 : (i 1).val < 1408 := (i 1).isLt
  rw [val_main_v15_apply, val_main_v14_apply, val_main_v13_apply, val_main_v12_apply, val_main_v11_apply, val_main_v10_apply, val_main_v9_apply, val_main_v1_apply, v0_at, v8_at]
  unfold Spec.nrm G
  rw [dif_pos h1]
  refine congrArg (fun z => X x (i 0).val (i 1).val * Spec.sig (X x) (i 0).val * g z) (funext fun a => Fin.ext ?_)
  match a with
  | ⟨0, _⟩ => rfl

theorem v16_at (i : S65536x44x32.Idx) : val_main_v16 (F := Ideal) x g i = Spec.nrm (X x) (G g) (i 0).val ((i 1).val * 32 + (i 2).val) := by
  have h0 : (i 0).val < 65536 := (i 0).isLt
  have h1 : (i 1).val < 44 := (i 1).isLt
  have h2 : (i 2).val < 32 := (i 2).isLt
  rw [val_main_v16_apply, v15_at]
  refine congrArg₂ (Spec.nrm (X x) (G g)) ?_ ?_
  · show (((i 0).val * 44 + (i 1).val) * 32 + (i 2).val) / 1408 = _; omega
  · show (((i 0).val * 44 + (i 1).val) * 32 + (i 2).val) % 1408 = _; omega

theorem v41_at (i : S2048x32x1408.Idx) : val_main_v41 (F := Ideal) x g i = Spec.nrm (X x) (G g) ((i 0).val * 32 + (i 1).val) (i 2).val := by
  have h0 : (i 0).val < 2048 := (i 0).isLt
  have h1 : (i 1).val < 32 := (i 1).isLt
  have h2 : (i 2).val < 1408 := (i 2).isLt
  rw [val_main_v41_apply, v15_at]
  refine congrArg₂ (Spec.nrm (X x) (G g)) ?_ ?_
  · show (((i 0).val * 32 + (i 1).val) * 1408 + (i 2).val) / 1408 = _; omega
  · show (((i 0).val * 32 + (i 1).val) * 1408 + (i 2).val) % 1408 = _; omega

theorem v18_fold (y : FVec Ideal S65536x44x32 .f32) (b : FVec Ideal S_ .f32) (n : Fin 65536) (h : Fin 44) :
    Host.reduce FloatOps.maximumf y b reducesTo_S65536x44x32_S65536x44_d2 h_S_ (ix2 n h) = (Finset.univ : Finset (Fin 32)).fold max (b (Shape.Idx.first h_S_)) fun k => y (ix3 n h k) := by
  pointwise

theorem v43_fold (y : FVec Ideal S2048x32x1408 .f32) (b : FVec Ideal S_ .f32) (n : Fin 2048) (d : Fin 1408) :
    Host.reduce FloatOps.maximumf y b reducesTo_S2048x32x1408_S2048x1408_d1 h_S_ (ix2 n d) = (Finset.univ : Finset (Fin 32)).fold max (b (Shape.Idx.first h_S_)) fun k => y (ix3 n k d) := by
  pointwise

theorem v21_at (i : S65536x44x1.Idx) : val_main_v21 (F := Ideal) x g i = Spec.rq (X x) (G g) (i 1).val (i 0).val := by
  rw [val_main_v21_apply, val_main_v20_apply, val_main_v19_apply, val_main_cst_3_apply]
  have e := (congrArg (val_main_v18 (F := Ideal) x g) (eq_ix2 (idx_main_v19 i))).trans (v18_fold (val_main_v17 (F := Ideal) x g) (val_main_cst_2 (F := Ideal)) ⟨(i 0).val, (i 0).isLt⟩ ⟨(i 1).val, (i 1).isLt⟩)
  rw [e]
  simp only [val_main_v17_apply, v16_at]
  rfl

theorem v46_at (i : S2048x1x1408.Idx) : val_main_v46 (F := Ideal) x g i = Spec.cq (X x) (G g) (i 0).val (i 2).val := by
  rw [val_main_v46_apply, val_main_v45_apply, val_main_v44_apply, val_main_cst_11_apply]
  have e := (congrArg (val_main_v43 (F := Ideal) x g) (eq_ix2 (idx_main_v44 i))).trans (v43_fold (val_main_v42 (F := Ideal) x g) (val_main_cst_10 (F := Ideal)) ⟨(i 0).val, (i 0).isLt⟩ ⟨(i 2).val, (i 2).isLt⟩)
  rw [e]
  simp only [val_main_v42_apply, v41_at]
  rfl

/-- The exponent, as the reference selects it. -/
theorem sel (q : EReal) : Scalar.select (FloatOps.cmpf (F := Ideal) (φ := .f32) .olt q (FloatOps.ofBits .f32 0x00800000#32)) (FloatOps.ofBits (F := Ideal) .f32 0x00000000#32)
    (FloatOps.addf (F := Ideal) (φ := .f32) (FloatOps.hostUnary (F := Ideal) (φ := .f32) .floor (FloatOps.hostDivf (F := Ideal) (φ := .f32) (FloatOps.hostUnary (F := Ideal) (φ := .f32) .log q) (FloatOps.hostUnary (F := Ideal) (φ := .f32) .log (FloatOps.ofBits .f32 0x40000000#32)))) (FloatOps.ofBits .f32 0x3F800000#32)) = Expo.refE q := by
  unfold Expo.refE
  pointwise

theorem v31_at (i : S65536x44x1.Idx) : val_main_v31 (F := Ideal) x g i = Expo.refE (Spec.rq (X x) (G g) (i 1).val (i 0).val) := by
  rw [← sel, ← v21_at]
  rw [val_main_v31_apply, val_main_v30_apply, val_main_v29_apply, val_main_v28_apply, val_main_v27_apply, val_main_v26_apply, val_main_v25_apply, val_main_v24_apply, val_main_v23_apply, val_main_v22_apply, val_main_call0_v1_apply]
  rfl

theorem v56_at (i : S2048x1x1408.Idx) : val_main_v56 (F := Ideal) x g i = Expo.refE (Spec.cq (X x) (G g) (i 0).val (i 2).val) := by
  rw [← sel, ← v46_at]
  rw [val_main_v56_apply, val_main_v55_apply, val_main_v54_apply, val_main_v53_apply, val_main_v52_apply, val_main_v51_apply, val_main_v50_apply, val_main_v49_apply, val_main_v48_apply, val_main_v47_apply, val_main_call2_v1_apply]
  rfl

/-- The row scales. -/
theorem v65_at (i : S65536x44.Idx) : val_main_v65 (F := Ideal) x g i = Ideal.pow (Ideal.ofBits .f32 0x40000000#32) (Expo.refE (Spec.rq (X x) (G g) (i 1).val (i 0).val)) := by
  have h0 : (i 0).val < 65536 := (i 0).isLt
  have h1 : (i 1).val < 44 := (i 1).isLt
  rw [val_main_v65_apply, val_main_v32_apply, v31_at, val_main_v22_apply, val_main_cst_4_apply]
  refine congrArg (fun z => Ideal.pow (Ideal.ofBits .f32 0x40000000#32) (Expo.refE z)) (congrArg₂ (Spec.rq (X x) (G g)) ?_ ?_)
  · show ((i 0).val * 44 + (i 1).val) / 1 % 44 = _; omega
  · show ((i 0).val * 44 + (i 1).val) / 44 = _; omega

/-- The column scales. -/
theorem v69_at (i : S1408x2048.Idx) : val_main_v69 (F := Ideal) x g i = Ideal.pow (Ideal.ofBits .f32 0x40000000#32) (Expo.refE (Spec.cq (X x) (G g) (i 1).val (i 0).val)) := by
  have h0 : (i 0).val < 1408 := (i 0).isLt
  have h1 : (i 1).val < 2048 := (i 1).isLt
  rw [val_main_v69_apply, val_main_v68_apply, val_main_v57_apply, v56_at, val_main_v47_apply, val_main_cst_12_apply]
  refine congrArg (fun z => Ideal.pow (Ideal.ofBits .f32 0x40000000#32) (Expo.refE z)) (congrArg₂ (Spec.cq (X x) (G g)) ?_ ?_)
  · show ((i 1).val * 1408 + (i 0).val) / 1408 = _; omega
  · show ((i 1).val * 1408 + (i 0).val) % 1408 = _; omega

/-- The row codes, in groups. -/
theorem v40_at (i : S65536x44x32.Idx) : val_main_v40 (F := Ideal) x g i = Spec.clip (Spec.nrm (X x) (G g) (i 0).val ((i 1).val * 32 + (i 2).val) * Ideal.pow (Ideal.ofBits .f32 0x40000000#32) (-(Expo.refE (Spec.rq (X x) (G g) (i 1).val (i 0).val)))) := by
  rw [val_main_v40_apply, val_main_v39_apply, val_main_call1_v4_apply, val_main_call1_v2_apply, val_main_call1_v1_apply, val_main_v38_apply, val_main_v37_apply, val_main_v36_apply, val_main_v35_apply, val_main_v34_apply, val_main_v33_apply, v31_at, val_main_v22_apply, v16_at]
  rfl

/-- The column codes, in groups. -/
theorem v63_at (i : S2048x32x1408.Idx) : val_main_v63 (F := Ideal) x g i = Spec.clip (Spec.nrm (X x) (G g) ((i 0).val * 32 + (i 1).val) (i 2).val * Ideal.pow (Ideal.ofBits .f32 0x40000000#32) (-(Expo.refE (Spec.cq (X x) (G g) (i 0).val (i 2).val)))) := by
  rw [val_main_v63_apply, val_main_v62_apply, val_main_call3_v4_apply, val_main_call3_v2_apply, val_main_call3_v1_apply, val_main_v61_apply, val_main_v60_apply, val_main_v59_apply, val_main_v58_apply, v56_at, val_main_v47_apply, v41_at]
  rfl

/-- The row codes. -/
theorem v64_at (i : S65536x1408.Idx) : val_main_v64 (F := Ideal) x g i = Spec.clip (Spec.nrm (X x) (G g) (i 0).val (i 1).val * Ideal.pow (Ideal.ofBits .f32 0x40000000#32) (-(Expo.refE (Spec.rq (X x) (G g) ((i 1).val / 32) (i 0).val)))) := by
  have h0 : (i 0).val < 65536 := (i 0).isLt
  have h1 : (i 1).val < 1408 := (i 1).isLt
  rw [val_main_v64_apply, v40_at]
  have e0 : ((idx_main_v64 i) 0).val = (i 0).val := by show ((i 0).val * 1408 + (i 1).val) / 1408 = _; omega
  have e1 : ((idx_main_v64 i) 1).val = (i 1).val / 32 := by show ((i 0).val * 1408 + (i 1).val) / 32 % 44 = _; omega
  have e2 : ((idx_main_v64 i) 2).val = (i 1).val % 32 := by show ((i 0).val * 1408 + (i 1).val) % 32 = _; omega
  rw [e0, e1, e2, show (i 1).val / 32 * 32 + (i 1).val % 32 = (i 1).val by omega]

/-- The column codes. -/
theorem v67_at (i : S1408x65536.Idx) : val_main_v67 (F := Ideal) x g i = Spec.clip (Spec.nrm (X x) (G g) (i 1).val (i 0).val * Ideal.pow (Ideal.ofBits .f32 0x40000000#32) (-(Expo.refE (Spec.cq (X x) (G g) ((i 1).val / 32) (i 0).val)))) := by
  have h0 : (i 0).val < 1408 := (i 0).isLt
  have h1 : (i 1).val < 65536 := (i 1).isLt
  rw [val_main_v67_apply, val_main_v66_apply, v63_at]
  have e0 : ((idx_main_v66 (idx_main_v67 i)) 0).val = (i 1).val / 32 := by show ((i 1).val * 1408 + (i 0).val) / 45056 = _; omega
  have e1 : ((idx_main_v66 (idx_main_v67 i)) 1).val = (i 1).val % 32 := by show ((i 1).val * 1408 + (i 0).val) / 1408 % 32 = _; omega
  have e2 : ((idx_main_v66 (idx_main_v67 i)) 2).val = (i 0).val := by show ((i 1).val * 1408 + (i 0).val) % 1408 = _; omega
  rw [e0, e1, e2, show (i 1).val / 32 * 32 + (i 1).val % 32 = (i 1).val by omega]

end Cert.ReferenceIdeal.Ref
end
-- ==== Proof.V.Last.lean ====
module

public import proofs.«01_k».proof.Proof.V.Arrays

@[expose] public section

set_option maxRecDepth 65536

noncomputable section

/-! # The array of column scales -/

namespace Cert.KernelIdeal.Arrays
open Idealize.ShloMosaic Idealize.ShloMosaic.TcCoe Idealize.ShloMosaic.Tactic Cert.KernelIdeal Cert.KernelIdeal.Gen

variable (m : (ℓ : Loc nD τ sig) → Buf (Elt Ideal) ℓ)

/-- The last point of a run of sixteen writes the scratch out transposed. -/
theorem tail_gen (c : Dev nD) (i : grid0.Coords) (arg1 : Memref sig .tc .vmem S256x1408 .bf16) (harg1 : arg1.IsWhole) (arg2 : Memref sig .tc .vmem S1x1408 .bf16) (harg2 : arg2.IsWhole) (arg3 : Memref sig .tc .vmem S256x1408 .fp8e4m3) (harg3 : arg3.IsWhole) (arg4 : Memref sig .tc .vmem S44x256 .f32) (harg4 : arg4.IsWhole) (arg5 : Memref sig .tc .vmem S1408x256 .fp8e4m3) (harg5 : arg5.IsWhole) (arg6 : Memref sig .tc .vmem S1408x128 .f32) (harg6 : arg6.IsWhole) (arg7 : Memref sig .tc .vmem S1x1x256 .f32) (harg7 : arg7.IsWhole) (arg8 : Memref sig .tc .vmem S1408x256 .f32) (harg8 : arg8.IsWhole) (arg9 : Memref sig .tc .vmem S1408x128 .f32) (harg9 : arg9.IsWhole) (arg10 : Memref sig .tc .vmem S128x1408 .f32) (harg10 : arg10.IsWhole) (arg11 : Memref sig .tc .vmem S256x256 .bf16) (harg11 : arg11.IsWhole) (arg12 : Memref sig .tc .vmem S256x256 .fp8e4m3) (harg12 : arg12.IsWhole) (arg13 : Memref sig .tc .vmem S8x256 .bf16) (harg13 : arg13.IsWhole) (hc2 : k0_cond2 i = 1#1) (xs10 : Vec Ideal S128x1408 .f32) (d : Fin 1408) (r : Fin 128) :
    View.canon (Val := Elt Ideal) (tailRun (F := Ideal) c i arg1 harg1 arg2 harg2 arg3 harg3 arg4 harg4 arg5 harg5 arg6 harg6 arg7 harg7 arg8 harg8 arg9 harg9 arg10 harg10 arg11 harg11 arg12 harg12 arg13 harg13 hc2 xs10).1 (ix2 d r) = xs10 (ix2 r d) := by
  dsimp only [tailRun, tailRun.sl.r]
  canon_tiles x h
  all_goals
    obtain ⟨p, q, rfl⟩ : ∃ p q, x = ix2 p q := ⟨_, _, eq_ix2 x⟩
    pointwise [k0_pay1, k0_pay2, k0_pay3, k0_pay24, k0_pay25, k0_pay26, k0_pay27, k0_pay28, k0_pay29, k0_pay30, k0_pay31]
    try unfold tailRun.sl.r
    rw [View.readAt_eq_ld, Memref.IsWhole.read_unread]
    pointwise
    first
      | exact congrArg xs10 (congrArg₂ ix2 (Fin.ext h1.symm) (Fin.ext h0.symm))
      | (refine congrArg xs10 ?_
         blk_ext
         all_goals first | exact h1.symm | exact h0.symm)

/-- The scratch at the end of a run of sixteen points. -/
theorem cst_apply (c : Dev nD) (t : Fin cfg0.N) (r : Fin 128) (d : Fin 1408) : cst m c t.val (ix2 r d) = Expo.scale (Spec.cq (X (xm m c)) (G (gm m c)) (128 * (t.val / 16) + r.val) d.val) := by
  have ht : t.val < 256 := Nat.lt_of_lt_of_eq t.isLt N_0
  have hN : cfg0.N = 256 := N_0
  have hlt : t.val / 16 * 16 + r.val / 8 < cfg0.N := by omega
  unfold cst
  refine (dif_pos (show t.val / 16 * 16 + ((ix2 r d : S128x1408.Idx) 0).val / 8 < cfg0.N from hlt)).trans ?_
  refine (col_apply m c ⟨t.val / 16 * 16 + r.val / 8, hlt⟩ r (r.val % 8) (by show r.val = 8 * ((t.val / 16 * 16 + r.val / 8) % 16) + r.val % 8; omega) (by omega) d).trans ?_
  refine congrArg (fun z => Expo.scale (Spec.cq _ _ z _)) ?_
  show 8 * (t.val / 16 * 16 + r.val / 8) + r.val % 8 = _
  omega

/-- What the last point of a run of sixteen writes. -/
theorem out5_apply (c : Dev nD) (t : Fin cfg0.N) (h : k0_cond2 (grid0.coords t) = 1#1) (d : Fin 1408) (r : Fin 128) : out5 m c t (ix2 d r) = Expo.scale (Spec.cq (X (xm m c)) (G (gm m c)) (128 * (t.val / 16) + r.val) d.val) := by
  unfold out5
  rw [dif_pos h]
  exact (tail_gen (xs10 := cst m c t.val) (hc2 := h) (d := d) (r := r) ..).trans (cst_apply m c t r d)

/-- Window 5's array: the column scales, a channel a row. -/
theorem arr5 (c : Dev nD) : (dats m 0 c).arrAt 5 cfg0.N = (fun y => Expo.scale (Spec.cq (X (xm m c)) (G (gm m c)) (y 1).val (y 0).val) : S1408x2048.Idx → EReal) := by
  refine (dats m 0 c).arrAt_eq_of_covers 5 _ (by decide +kernel) fun t hf y => ?_
  obtain ⟨d, r, rfl⟩ : ∃ (d : Fin 1408) (r : Fin 128), y = ix2 d r := ⟨_, _, eq_ix2 y⟩
  have h : k0_cond2 (grid0.coords t) = 1#1 := (cond2_iff _).mpr (by rw [coords_val t]; exact (flush0_5 t).mp hf)
  blk_simp [idx5 t]
  rw [after0_5, Nat.mul_comm (t.val / 16) 128]
  exact out5_apply m c t h d r

end Cert.KernelIdeal.Arrays
end
-- ==== Proof.V.Result.lean ====
module

public import proofs.«01_k».proof.Proof.V.Ref
public import proofs.«01_k».proof.Proof.V.Last

@[expose] public section

set_option maxRecDepth 65536

noncomputable section

/-! # What the kernel leaves in its five results -/

namespace Cert.KernelIdeal.Result
open Idealize.ShloMosaic Idealize.ShloMosaic.TcCoe Idealize.SL Idealize.SL.Sem Idealize.ShloMosaic.Tactic Cert.KernelIdeal Cert.KernelIdeal.Gen Cert.KernelIdeal.Arrays
open Cert.ReferenceIdeal.Read Cert.ReferenceIdeal.Ref

variable (m : (ℓ : Loc nD τ sig) → Buf (Elt Ideal) ℓ) (ρ : Dev nD → PrngReg)

theorem res2 (c : Dev nD) (hG : Spec.Bounded (G (gm m c))) : (dats m 0 c).arrAt 2 cfg0.N = val_main_v64 (F := Ideal) (xm m c) (gm m c) := by
  rw [arr2]
  funext y
  have h1 : (y 1).val < 1408 := (y 1).isLt
  refine Eq.trans ?_ (v64_at (xm m c) (gm m c) y).symm
  exact congrArg (fun z => Spec.clip (_ * z)) (Spec.scale_rq _ _ hG _ _ (by omega)).2

theorem res4 (c : Dev nD) (hG : Spec.Bounded (G (gm m c))) : (dats m 0 c).arrAt 4 cfg0.N = val_main_v67 (F := Ideal) (xm m c) (gm m c) := by
  rw [arr4]
  funext y
  have h1 : (y 0).val < 1408 := (y 0).isLt
  refine Eq.trans ?_ (v67_at (xm m c) (gm m c) y).symm
  exact congrArg (fun z => Spec.clip (_ * z)) (Spec.scale_cq _ _ hG _ _ h1).2

theorem res5 (c : Dev nD) (hG : Spec.Bounded (G (gm m c))) : (dats m 0 c).arrAt 5 cfg0.N = val_main_v69 (F := Ideal) (xm m c) (gm m c) := by
  rw [arr5]
  funext y
  have h1 : (y 0).val < 1408 := (y 0).isLt
  refine Eq.trans ?_ (v69_at (xm m c) (gm m c) y).symm
  exact (Spec.scale_cq _ _ hG _ _ h1).1

/-- The row scales, transposed. -/
theorem res3 (c : Dev nD) (hG : Spec.Bounded (G (gm m c))) : transpose S65536x44 [1, 0] ((dats m 0 c).arrAt 3 cfg0.N : S44x65536.Idx → EReal) transposes_S44x65536_S65536x44_1_0 = val_main_v65 (F := Ideal) (xm m c) (gm m c) := by
  rw [arr3]
  funext y
  obtain ⟨n, h, rfl⟩ : ∃ (n : Fin 65536) (h : Fin 44), y = ix2 n h := ⟨_, _, eq_ix2 y⟩
  refine Eq.trans ?_ (v65_at (xm m c) (gm m c) (ix2 n h)).symm
  pointwise
  exact (Spec.scale_rq _ _ hG _ _ h.isLt).1

/-- The inverse root mean squares, flattened. -/
theorem res6 (c : Dev nD) : shapeCast S65536 ((dats m 0 c).arrAt 6 cfg0.N : S256x1x256.Idx → EReal) shapeCasts_S256x1x256_S65536 = val_main_v8 (F := Ideal) (xm m c) := by
  rw [arr6]
  funext y
  obtain ⟨n, rfl⟩ : ∃ (n : Fin 65536), y = ix1 n := ⟨_, eq_ix1 y⟩
  refine Eq.trans ?_ (v8_at (xm m c) (ix1 n)).symm
  have hn : n.val < 65536 := n.isLt
  refine (shapeCast_apply _ shapeCasts_S256x1x256_S65536 (ix1 n) (ix3 ⟨n.val / 256, by omega⟩ 0 ⟨n.val % 256, by omega⟩) ?_).trans ?_
  · rw [Shape.rowMajor_val_three, Shape.rowMajor_val_one]
    show (n.val / 256 * 1 + 0) * 256 + n.val % 256 = n.val
    omega
  · refine congrArg (Spec.sig (X (xm m c))) ?_
    show 256 * (n.val / 256) + n.val % 256 = n.val
    omega

/-- The host's transpose after the launch. -/
theorem tail3 (c : Dev nD) : Pipeline.afterTail₀ cfgs (dats m) 0 (V0 m) [hostOps1] c main_v3 = transpose S65536x44 [1, 0] ((dats m 0 c).arrAt 3 cfg0.N : S44x65536.Idx → EReal) transposes_S44x65536_S65536x44_1_0 := by
  unfold Pipeline.afterTail₀
  simp only [hostOps1, List.flatten_cons, List.flatten_nil, List.append_nil]
  after_results_simp
  exact congrArg (fun z => transpose S65536x44 [1, 0] (z : S44x65536.Idx → EReal) transposes_S44x65536_S65536x44_1_0) (Pipeline.withArrays_arr spec0 (by decide) c (V0 m c) (fun w => (dats m 0 c).arrAt w cfg0.N) 3)

/-- The host's reshape after the launch. -/
theorem tail4 (c : Dev nD) : Pipeline.afterTail₀ cfgs (dats m) 0 (V0 m) [hostOps1] c main_v4 = shapeCast S65536 ((dats m 0 c).arrAt 6 cfg0.N : S256x1x256.Idx → EReal) shapeCasts_S256x1x256_S65536 := by
  unfold Pipeline.afterTail₀
  simp only [hostOps1, List.flatten_cons, List.flatten_nil, List.append_nil]
  after_results_simp
  exact congrArg (fun z => shapeCast S65536 (z : S256x1x256.Idx → EReal) shapeCasts_S256x1x256_S65536) (Pipeline.withArrays_arr spec0 (by decide) c (V0 m c) (fun w => (dats m 0 c).arrAt w cfg0.N) 6)

/-- The kernel's run, its results in the reference's terms. -/
theorem run (hG : ∀ c, Spec.Bounded (G (gm m c))) : θ_run defs (onTc (τ := τ) (main (F := Ideal))) ⟨m, fun _ => 0, ρ⟩ (fun r => ∀ c : Dev nD,
    r.2.mem ((c.tc : Thread nD τ).loc main_v2_0) = val_main_v64 (F := Ideal) (xm m c) (gm m c)
    ∧ r.2.mem ((c.tc : Thread nD τ).loc main_v3) = val_main_v65 (F := Ideal) (xm m c) (gm m c)
    ∧ r.2.mem ((c.tc : Thread nD τ).loc main_v2_2) = val_main_v67 (F := Ideal) (xm m c) (gm m c)
    ∧ r.2.mem ((c.tc : Thread nD τ).loc main_v2_3) = val_main_v69 (F := Ideal) (xm m c) (gm m c)
    ∧ r.2.mem ((c.tc : Thread nD τ).loc main_v4) = val_main_v8 (F := Ideal) (xm m c)
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  run_from (run_main m ρ)
  · exact res2 m c (hG c)
  · exact (tail3 m c).trans (res3 m c (hG c))
  · exact res4 m c (hG c)
  · exact res5 m c (hG c)
  · exact (tail4 m c).trans (res6 m c)
  · exact W_main_arg0 m (dats m) c
  · exact W_main_arg1 m (dats m) c

end Cert.KernelIdeal.Result
end
-- ==== Proof.V.Pre.lean ====
module

public import proofs.«01_k».proof.Pre_gamma_finite
public import proofs.«01_k».proof.Proof.V.Bound
public import proofs.«01_k».proof.Proof.V.Arrays
public import Idealize.ShloMosaic.Lib.ReduceAll

@[expose] public section

set_option maxRecDepth 65536

noncomputable section

/-! # The condition on the weights, read at every weight -/

namespace Cert.Pre_gamma_finite.Gen
open Idealize.ShloMosaic Idealize.ShloMosaic.Tactic

/-- The side conditions of the condition's operations. -/
instance facts : Cert.Pre_gamma_finite.Facts where
  bitsLt_bf16_f32 := by decide
  bcast_S_S1408 := by decide
  reducesTo_S1408_S_d0 := by decide
  h_S_ := by decide

instance : Subsingleton S_.Idx := ⟨fun a b => funext fun i => i.elim0⟩

/-- Every weight is at most the bound in magnitude. -/
theorem bounded (x : FVec Ideal S16x4096x1408 .bf16) (g : FVec Ideal S1408 .bf16)
    (h : Cert.Pre_gamma_finite.fn (F := Ideal) x g = fun _ => 1#1) : Cert.KernelIdeal.Spec.Bounded (Cert.KernelIdeal.Arrays.G g) := by
  have h0 := congrFun h (Shape.Idx.first Facts.h_S_)
  dsimp only [Cert.Pre_gamma_finite.fn] at h0
  intro d
  unfold Cert.KernelIdeal.Arrays.G
  split_ifs with hd
  · have h1 := Host.reduce_andi_all _ _ _ _ _ h0 (ix1 ⟨d, hd⟩)
    have h2 : Ideal.cmp .ole (max (g (ix1 ⟨d, hd⟩)) (-(g (ix1 ⟨d, hd⟩)))) (Ideal.ofBits .f32 0x7F7F0000#32) = 1#1 := h1
    by_contra hc
    rw [show Ideal.cmp .ole (max (g (ix1 ⟨d, hd⟩)) (-(g (ix1 ⟨d, hd⟩)))) (Ideal.ofBits .f32 0x7F7F0000#32) = 0#1 by
      show BitVec.ofBool (decide (_ ≤ _)) = 0#1
      rw [decide_eq_false hc]; rfl] at h2
    exact absurd h2 (by decide)
  · rw [Cert.KernelIdeal.Spec.big_eq, neg_zero, max_self]
    exact_mod_cast (by positivity : (0 : ℝ) ≤ 255 * (2 : ℝ) ^ (120 : ℤ))

end Cert.Pre_gamma_finite.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.W.Frames
public import proofs.«01_k».proof.Proof.W.RefFrame
public import proofs.«01_k».proof.Proof.V.Result
public import proofs.«01_k».proof.Proof.V.Pre
public import Idealize.ShloMosaic.Adequacy
public import Idealize.ShloMosaic.Init

@[expose] public section

noncomputable section

namespace Cert.Proof

open Idealize.ShloMosaic Idealize.SL.Sem Cert.Kernel

/-- The reference's run, its results by the names of its stages. -/
theorem reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v64) = Cert.ReferenceIdeal.Read.val_main_v64 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v65) = Cert.ReferenceIdeal.Read.val_main_v65 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v67) = Cert.ReferenceIdeal.Read.val_main_v67 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v69) = Cert.ReferenceIdeal.Read.val_main_v69 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v8) = Cert.ReferenceIdeal.Read.val_main_v8 (F := Ideal) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c).1.trans (Cert.ReferenceIdeal.Read.val_main_v64_eq m c), (h c).2.1.trans (Cert.ReferenceIdeal.Read.val_main_v65_eq _ _),
    (h c).2.2.1.trans (Cert.ReferenceIdeal.Read.val_main_v67_eq m c), (h c).2.2.2.1.trans (Cert.ReferenceIdeal.Read.val_main_v69_eq _ _),
    (h c).2.2.2.2.1.trans (Cert.ReferenceIdeal.Read.val_main_v8_eq _), (h c).2.2.2.2.2.1, (h c).2.2.2.2.2.2⟩) (Cert.ReferenceIdeal.Value.run m g)

/-- The kernel and the reference leave the same five results. -/
theorem algebraic : Cert.algebraic_KernelIdeal_ReferenceIdeal_pre_gamma_finite (hKernelIdeal := Cert.KernelIdeal.Gen.facts) (hReferenceIdeal := Cert.ReferenceIdeal.Gen.facts) (hPre_gamma_finite := Cert.Pre_gamma_finite.Gen.facts) := by
  intro m g m' g' hpre hagree
  refine ⟨_, _, _, _, _, Cert.KernelIdeal.Result.run m g fun c => Cert.Pre_gamma_finite.Gen.bounded _ _ (hpre c), ?_⟩
  refine (θ_run Cert.ReferenceIdeal.defs _ _).mono (fun _ h c => ?_) (reference m' g')
  have hc := h c
  rw [(hagree c).1, (hagree c).2] at hc
  obtain ⟨h0, h1, h2, h3, h4, h5, h6⟩ := hc
  exact ⟨h0, h1, h2, h3, h4, h5.trans (hagree c).1.symm, h6.trans (hagree c).2.symm⟩

theorem claim : Cert.Claim := ⟨Cert.Kernel.Gen.facts, Cert.KernelIdeal.Gen.facts, Cert.ReferenceIdeal.Gen.facts, Cert.Pre_gamma_finite.Gen.facts,
  Cert.Kernel.Gen.frame,
  fun m g _ => Cert.KernelIdeal.Gen.frame m g,
  fun m g _ => Cert.KernelIdeal.Gen.frame m g,
  fun m g _ => Cert.ReferenceIdeal.Value.frame m g,
  fun m g _ => Cert.ReferenceIdeal.Value.frame m g,
  IdealRules.named_const.statement Cert.KernelIdeal.κ "inv_d" .f32 0x3A3A2E8C#32 ((1 / 1408 : ℝ) : EReal) rfl,
  algebraic⟩

end Cert.Proof

end
